-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_n" .f32 0x39124925#32 ((1 / 7168 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_0) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_v4_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S2x128x16384 : Shape := ⟨3, ![2, 128, 16384]⟩
abbrev S2x128x512 : Shape := ⟨3, ![2, 128, 512]⟩
abbrev S16384x7168 : Shape := ⟨2, ![16384, 7168]⟩
abbrev S512x7168 : Shape := ⟨2, ![512, 7168]⟩
abbrev S2x128x7168 : Shape := ⟨3, ![2, 128, 7168]⟩
abbrev S7168 : Shape := ⟨1, ![7168]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x7168 : S_.BroadcastsInDim S512x7168 (![] : Fin 0 → Fin S512x7168.rank)
  reducesTo_S512x7168_S_d0_1 : S512x7168.ReducesTo [0, 1] S_
  bcast_S_S7168 : S_.BroadcastsInDim S7168 (![] : Fin 0 → Fin S7168.rank)
  reducesTo_S7168_S_d0 : S7168.ReducesTo [0] S_

variable [Facts]

def fn_part1 {F : FTy → Type} [FloatOps F] (main_v12 : IVec S_ 1) (main_v15 : IVec S7168 1) (main_c_5 : IVec S_ 1) : IVec S_ 1 :=
  let main_v16 : IVec S_ 1 := (fun x v => Host.reduce IntOp.andi x v reducesTo_S7168_S_d0 h_S_) main_v15 main_c_5
  let main_v17 : IVec S_ 1 := andi main_v12 main_v16
  main_v17

def fn {F : FTy → Type} [FloatOps F] (main_arg0 : FVec F S2x128x16384 .fp8e4m3) (main_arg1 : IVec S2x128x512 8) (main_arg2 : FVec F S16384x7168 .fp8e4m3) (main_arg3 : IVec S512x7168 8) (main_arg4 : FVec F S2x128x7168 .bf16) (main_arg5 : FVec F S7168 .f32) : IVec S_ 1 :=
  let main_c : IVec S_ 8 := constantI S_ 8 1#8
  let main_v0 : IVec S2x128x512 8 := broadcastInDim S2x128x512 ![] bcast_S_S2x128x512 main_c
  let main_v1 : IVec S2x128x512 1 := cmpi .uge main_arg1 main_v0
  let main_c_0 : IVec S_ 8 := constantI S_ 8 254#8
  let main_v2 : IVec S2x128x512 8 := broadcastInDim S2x128x512 ![] bcast_S_S2x128x512 main_c_0
  let main_v3 : IVec S2x128x512 1 := cmpi .ule main_arg1 main_v2
  let main_v4 : IVec S2x128x512 1 := andi main_v1 main_v3
  let main_c_1 : IVec S_ 1 := constantI S_ 1 1#1
  let main_v5 : IVec S_ 1 := (fun x v => Host.reduce IntOp.andi x v reducesTo_S2x128x512_S_d0_1_2 h_S_) main_v4 main_c_1
  let main_c_2 : IVec S_ 8 := constantI S_ 8 1#8
  let main_v6 : IVec S512x7168 8 := broadcastInDim S512x7168 ![] bcast_S_S512x7168 main_c_2
  let main_v7 : IVec S512x7168 1 := cmpi .uge main_arg3 main_v6
  let main_c_3 : IVec S_ 8 := constantI S_ 8 254#8
  let main_v8 : IVec S512x7168 8 := broadcastInDim S512x7168 ![] bcast_S_S512x7168 main_c_3
  let main_v9 : IVec S512x7168 1 := cmpi .ule main_arg3 main_v8
  let main_v10 : IVec S512x7168 1 := andi main_v7 main_v9
  let main_c_4 : IVec S_ 1 := constantI S_ 1 1#1
  let main_v11 : IVec S_ 1 := (fun x v => Host.reduce IntOp.andi x v reducesTo_S512x7168_S_d0_1 h_S_) main_v10 main_c_4
  let main_v12 : IVec S_ 1 := andi main_v5 main_v11
  let main_v13 : FVec F S7168 .f32 := Host.absf main_arg5
  let main_cst : FVec F S_ .f32 := constant S_ .f32 0x7F7FFFFF#32
  let main_v14 : FVec F S7168 .f32 := broadcastInDim S7168 ![] bcast_S_S7168 main_cst
  let main_v15 : IVec S7168 1 := cmpf .ole main_v13 main_v14
  let main_c_5 : IVec S_ 1 := constantI S_ 1 1#1
  fn_part1 (F := F) main_v12 main_v15 main_c_5
-- ==== Kernel.lean ====
abbrev S2x128x16384 : Shape := ⟨3, ![2, 128, 16384]⟩
abbrev S2x128x512 : Shape := ⟨3, ![2, 128, 512]⟩
abbrev S16384x7168 : Shape := ⟨2, ![16384, 7168]⟩
abbrev S512x7168 : Shape := ⟨2, ![512, 7168]⟩
abbrev S2x128x7168 : Shape := ⟨3, ![2, 128, 7168]⟩
abbrev S7168 : Shape := ⟨1, ![7168]⟩
abbrev S256x16384 : Shape := ⟨2, ![256, 16384]⟩
abbrev S256x512 : Shape := ⟨2, ![256, 512]⟩
abbrev S256x7168 : Shape := ⟨2, ![256, 7168]⟩
abbrev S1x7168 : Shape := ⟨2, ![1, 7168]⟩
abbrev S256x224 : Shape := ⟨2, ![256, 224]⟩
abbrev S4096x512 : Shape := ⟨2, ![4096, 512]⟩
abbrev S128x512 : Shape := ⟨2, ![128, 512]⟩
abbrev S256x128 : Shape := ⟨2, ![256, 128]⟩
abbrev S256x128x1 : Shape := ⟨3, ![256, 128, 1]⟩
abbrev S128x32x512 : Shape := ⟨3, ![128, 32, 512]⟩
abbrev S128x1x512 : Shape := ⟨3, ![128, 1, 512]⟩
abbrev S256x4096 : Shape := ⟨2, ![256, 4096]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S32x128x1 : Shape := ⟨3, ![32, 128, 1]⟩
abbrev S32x96 : Shape := ⟨2, ![32, 96]⟩

abbrev nBuf : Space → Nat
  | .hbm => 13
  | .vmem => 17
  | .smem => 0
  | _ => 0

abbrev bufTy : (tb : Table) → Fin (tcTables nBuf tb) → BufTy
  | .hbm, ⟨0, _⟩ => ⟨S2x128x16384, .fp8e4m3⟩
  | .hbm, ⟨1, _⟩ => ⟨S2x128x512, .i8⟩
  | .hbm, ⟨2, _⟩ => ⟨S16384x7168, .fp8e4m3⟩
  | .hbm, ⟨3, _⟩ => ⟨S512x7168, .i8⟩
  | .hbm, ⟨4, _⟩ => ⟨S2x128x7168, .bf16⟩
  | .hbm, ⟨5, _⟩ => ⟨S7168, .f32⟩
  | .hbm, ⟨6, _⟩ => ⟨S256x16384, .fp8e4m3⟩
  | .hbm, ⟨7, _⟩ => ⟨S256x512, .i8⟩
  | .hbm, ⟨8, _⟩ => ⟨S256x7168, .bf16⟩
  | .hbm, ⟨9, _⟩ => ⟨S1x7168, .f32⟩
  | .hbm, ⟨10, _⟩ => ⟨S256x7168, .bf16⟩
  | .hbm, ⟨11, _⟩ => ⟨S256x7168, .fp8e4m3⟩
  | .hbm, ⟨12, _⟩ => ⟨S256x224, .i8⟩
  | .local _ .vmem, ⟨0, _⟩ => ⟨S256x16384, .fp8e4m3⟩
  | .local _ .vmem, ⟨1, _⟩ => ⟨S256x512, .i8⟩
  | .local _ .vmem, ⟨2, _⟩ => ⟨S4096x512, .fp8e4m3⟩
  | .local _ .vmem, ⟨3, _⟩ => ⟨S4096x512, .fp8e4m3⟩
  | .local _ .vmem, ⟨4, _⟩ => ⟨S128x512, .i8⟩
  | .local _ .vmem, ⟨5, _⟩ => ⟨S128x512, .i8⟩
  | .local _ .vmem, ⟨6, _⟩ => ⟨S256x512, .bf16⟩
  | .local _ .vmem, ⟨7, _⟩ => ⟨S256x512, .bf16⟩
  | .local _ .vmem, ⟨8, _⟩ => ⟨S1x7168, .f32⟩
  | .local _ .vmem, ⟨9, _⟩ => ⟨S256x512, .bf16⟩
  | .local _ .vmem, ⟨10, _⟩ => ⟨S256x512, .bf16⟩
  | .local _ .vmem, ⟨11, _⟩ => ⟨S256x7168, .fp8e4m3⟩
  | .local _ .vmem, ⟨12, _⟩ => ⟨S256x224, .i8⟩
  | .local _ .vmem, ⟨13, _⟩ => ⟨S256x16384, .bf16⟩
  | .local _ .vmem, ⟨14, _⟩ => ⟨S256x512, .f32⟩
  | .local _ .vmem, ⟨15, _⟩ => ⟨S256x7168, .bf16⟩
  | .local _ .vmem, ⟨16, _⟩ => ⟨S256x128, .f32⟩
  | _, _ => ⟨S2x128x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨2, ![14, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c4096_i32_14 : BitVec 32 := 4096#32
  let v37 : BitVec 32 := Scalar.muli arg1 c4096_i32_14
  v37
def k0_mult2 (i : grid0.Coords) : BitVec 32 :=
  let arg1 : BitVec 32 := BitVec.ofNat 32 (i 1).val
  let c128_i32 : BitVec 32 := 128#32
  let v40 : BitVec 32 := Scalar.muli arg1 c128_i32
  v40
def k0_off1 (i : grid0.Coords) : Fin 2 → Nat :=
  let c0_15 : Index := 0#32
  let arg1 : BitVec 32 := BitVec.ofNat 32 (i 1).val
  let c128_i32 : BitVec 32 := 128#32
  let v40 : BitVec 32 := Scalar.muli arg1 c128_i32
  let v41 : BitVec 32 := v40
  let v42 : Index := Scalar.indexCast v41
  ![0, v42.toNat]
def k0_mult3 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c0_i32_25 : BitVec 32 := 0#32
  let v86 : BitVec 32 := Scalar.addi v38 c0_i32_25
  v86
def k0_off2 (i : grid0.Coords) (c0_i32_25 : BitVec 32) : Fin 2 → Nat :=
  let c0_26 : Index := 0#32
  let arg1 : BitVec 32 := BitVec.ofNat 32 (i 1).val
  let c4096_i32_14 : BitVec 32 := 4096#32
  let v37 : BitVec 32 := Scalar.muli arg1 c4096_i32_14
  let v38 : BitVec 32 := v37
  let v86 : BitVec 32 := Scalar.addi v38 c0_i32_25
  let v87 : BitVec 32 := v86
  let v88 : Index := Scalar.indexCast v87
  ![0, v88.toNat]
def k0_mult4 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c128_i32_37 : BitVec 32 := 128#32
  let v132 : BitVec 32 := Scalar.addi v38 c128_i32_37
  v132
def k0_mult5 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c256_i32 : BitVec 32 := 256#32
  let v178 : BitVec 32 := Scalar.addi v38 c256_i32
  v178
def k0_mult6 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c384_i32 : BitVec 32 := 384#32
  let v224 : BitVec 32 := Scalar.addi v38 c384_i32
  v224
def k0_mult7 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c512_i32 : BitVec 32 := 512#32
  let v270 : BitVec 32 := Scalar.addi v38 c512_i32
  v270
def k0_mult8 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c640_i32 : BitVec 32 := 640#32
  let v316 : BitVec 32 := Scalar.addi v38 c640_i32
  v316
def k0_mult9 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c768_i32 : BitVec 32 := 768#32
  let v362 : BitVec 32 := Scalar.addi v38 c768_i32
  v362
def k0_mult10 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c896_i32 : BitVec 32 := 896#32
  let v408 : BitVec 32 := Scalar.addi v38 c896_i32
  v408
def k0_mult11 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c1024_i32 : BitVec 32 := 1024#32
  let v454 : BitVec 32 := Scalar.addi v38 c1024_i32
  v454
def k0_mult12 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c1152_i32 : BitVec 32 := 1152#32
  let v500 : BitVec 32 := Scalar.addi v38 c1152_i32
  v500
def k0_mult13 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c1280_i32 : BitVec 32 := 1280#32
  let v546 : BitVec 32 := Scalar.addi v38 c1280_i32
  v546
def k0_mult14 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c1408_i32 : BitVec 32 := 1408#32
  let v592 : BitVec 32 := Scalar.addi v38 c1408_i32
  v592
def k0_mult15 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c1536_i32 : BitVec 32 := 1536#32
  let v638 : BitVec 32 := Scalar.addi v38 c1536_i32
  v638
def k0_mult16 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c1664_i32 : BitVec 32 := 1664#32
  let v684 : BitVec 32 := Scalar.addi v38 c1664_i32
  v684
def k0_mult17 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c1792_i32 : BitVec 32 := 1792#32
  let v730 : BitVec 32 := Scalar.addi v38 c1792_i32
  v730
def k0_mult18 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c1920_i32 : BitVec 32 := 1920#32
  let v776 : BitVec 32 := Scalar.addi v38 c1920_i32
  v776
def k0_mult19 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c2048_i32 : BitVec 32 := 2048#32
  let v822 : BitVec 32 := Scalar.addi v38 c2048_i32
  v822
def k0_mult20 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c2176_i32 : BitVec 32 := 2176#32
  let v868 : BitVec 32 := Scalar.addi v38 c2176_i32
  v868
def k0_mult21 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c2304_i32 : BitVec 32 := 2304#32
  let v914 : BitVec 32 := Scalar.addi v38 c2304_i32
  v914
def k0_mult22 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c2432_i32 : BitVec 32 := 2432#32
  let v960 : BitVec 32 := Scalar.addi v38 c2432_i32
  v960
def k0_mult23 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c2560_i32 : BitVec 32 := 2560#32
  let v1006 : BitVec 32 := Scalar.addi v38 c2560_i32
  v1006
def k0_mult24 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c2688_i32 : BitVec 32 := 2688#32
  let v1052 : BitVec 32 := Scalar.addi v38 c2688_i32
  v1052
def k0_mult25 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c2816_i32 : BitVec 32 := 2816#32
  let v1098 : BitVec 32 := Scalar.addi v38 c2816_i32
  v1098
def k0_mult26 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c2944_i32 : BitVec 32 := 2944#32
  let v1144 : BitVec 32 := Scalar.addi v38 c2944_i32
  v1144
def k0_mult27 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c3072_i32 : BitVec 32 := 3072#32
  let v1190 : BitVec 32 := Scalar.addi v38 c3072_i32
  v1190
def k0_mult28 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c3200_i32 : BitVec 32 := 3200#32
  let v1236 : BitVec 32 := Scalar.addi v38 c3200_i32
  v1236
def k0_mult29 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c3328_i32 : BitVec 32 := 3328#32
  let v1282 : BitVec 32 := Scalar.addi v38 c3328_i32
  v1282
def k0_mult30 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c3456_i32 : BitVec 32 := 3456#32
  let v1328 : BitVec 32 := Scalar.addi v38 c3456_i32
  v1328
def k0_mult31 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c3584_i32 : BitVec 32 := 3584#32
  let v1374 : BitVec 32 := Scalar.addi v38 c3584_i32
  v1374
def k0_mult32 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c3712_i32 : BitVec 32 := 3712#32
  let v1420 : BitVec 32 := Scalar.addi v38 c3712_i32
  v1420
def k0_mult33 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c3840_i32 : BitVec 32 := 3840#32
  let v1466 : BitVec 32 := Scalar.addi v38 c3840_i32
  v1466
def k0_mult34 (i : grid0.Coords) : BitVec 32 :=
  let arg1 : BitVec 32 := BitVec.ofNat 32 (i 1).val
  let c4096_i32_14 : BitVec 32 := 4096#32
  let v37 : BitVec 32 := Scalar.muli arg1 c4096_i32_14
  let v38 : BitVec 32 := v37
  let c3968_i32 : BitVec 32 := 3968#32
  let v1512 : BitVec 32 := Scalar.addi v38 c3968_i32
  v1512
def k0_mult35 (i : grid0.Coords) : BitVec 32 :=
  let arg1 : BitVec 32 := BitVec.ofNat 32 (i 1).val
  let c4096_i32 : BitVec 32 := 4096#32
  let v19 : BitVec 32 := Scalar.muli arg1 c4096_i32
  v19
def k0_off3 (i : grid0.Coords) : Fin 2 → Nat :=
  let c0_6 : Index := 0#32
  let arg1 : BitVec 32 := BitVec.ofNat 32 (i 1).val
  let c4096_i32 : BitVec 32 := 4096#32
  let v19 : BitVec 32 := Scalar.muli arg1 c4096_i32
  let v20 : BitVec 32 := v19
  let v21 : Index := Scalar.indexCast v20
  ![0, v21.toNat]
def k0_cond3 (i : grid0.Coords) : BitVec 1 :=
  let arg1 : BitVec 32 := BitVec.ofNat 32 (i 1).val
  let c3_i32 : BitVec 32 := 3#32
  let v29 : BitVec 1 := Scalar.cmpi .eq arg1 c3_i32
  let v30 : BitVec 32 := Scalar.extui v29
  let c0_i32_11 : BitVec 32 := 0#32
  let v31 : BitVec 1 := Scalar.cmpi .ne v30 c0_i32_11
  v31

def k0_mult36 (i : grid0.Coords) : BitVec 32 :=
  let arg0 : BitVec 32 := BitVec.ofNat 32 (i 0).val
  let c512_i32 : BitVec 32 := 512#32
  let v44 : BitVec 32 := Scalar.muli arg0 c512_i32
  v44
def k0_off4 (i : grid0.Coords) : Fin 2 → Nat :=
  let c0_20 : Index := 0#32
  let arg0 : BitVec 32 := BitVec.ofNat 32 (i 0).val
  let c512_i32 : BitVec 32 := 512#32
  let v44 : BitVec 32 := Scalar.muli arg0 c512_i32
  let v45 : BitVec 32 := v44
  let v46 : Index := Scalar.indexCast v45
  ![0, v46.toNat]
def k0_cond6 (i : grid0.Coords) : BitVec 1 :=
  let arg1 : BitVec 32 := BitVec.ofNat 32 (i 1).val
  let c3_i32_12 : BitVec 32 := 3#32
  let v32 : BitVec 1 := Scalar.cmpi .eq arg1 c3_i32_12
  let arg0 : BitVec 32 := BitVec.ofNat 32 (i 0).val
  let c13_i32 : BitVec 32 := 13#32
  let v33 : BitVec 1 := Scalar.cmpi .eq arg0 c13_i32
  let v34 : BitVec 1 := Scalar.andi v32 v33
  let v35 : BitVec 32 := Scalar.extui v34
  let c0_i32_13 : BitVec 32 := 0#32
  let v36 : BitVec 1 := Scalar.cmpi .ne v35 c0_i32_13
  v36

@[reducible] def k0_t1_loop : Scf.Loop 32 :=
  let c0_i32_14 : BitVec 32 := 0#32
  let c8_i32 : BitVec 32 := 8#32
  let v38 : BitVec 32 := Scalar.addi c0_i32_14 c8_i32
  let c1_i32 : BitVec 32 := 1#32
  ⟨c0_i32_14, v38, c1_i32⟩
def k0_mult37 (k0_t1 : Fin k0_t1_loop.trips) : BitVec 32 :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  v39
def k0_off5 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v41 : Index := Scalar.indexCast v40
  let c0_16 : Index := 0#32
  ![v41.toNat, 0]
def k0_off6 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v52 : Index := Scalar.indexCast v40
  let c0_22 : Index := 0#32
  ![v52.toNat, 0]
def k0_off7 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v244 : Index := Scalar.indexCast v40
  let c128 : Index := 128#32
  ![v244.toNat, 128]
def k0_off8 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v436 : Index := Scalar.indexCast v40
  let c256 : Index := 256#32
  ![v436.toNat, 256]
def k0_off9 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v628 : Index := Scalar.indexCast v40
  let c384 : Index := 384#32
  ![v628.toNat, 384]
def k0_off10 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v820 : Index := Scalar.indexCast v40
  let c512 : Index := 512#32
  ![v820.toNat, 512]
def k0_off11 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v1012 : Index := Scalar.indexCast v40
  let c640 : Index := 640#32
  ![v1012.toNat, 640]
def k0_off12 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v1204 : Index := Scalar.indexCast v40
  let c768 : Index := 768#32
  ![v1204.toNat, 768]
def k0_off13 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v1396 : Index := Scalar.indexCast v40
  let c896 : Index := 896#32
  ![v1396.toNat, 896]
def k0_off14 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v1588 : Index := Scalar.indexCast v40
  let c1024 : Index := 1024#32
  ![v1588.toNat, 1024]
def k0_off15 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v1780 : Index := Scalar.indexCast v40
  let c1152 : Index := 1152#32
  ![v1780.toNat, 1152]
def k0_off16 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v1972 : Index := Scalar.indexCast v40
  let c1280 : Index := 1280#32
  ![v1972.toNat, 1280]
def k0_off17 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v2164 : Index := Scalar.indexCast v40
  let c1408 : Index := 1408#32
  ![v2164.toNat, 1408]
def k0_off18 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v2356 : Index := Scalar.indexCast v40
  let c1536 : Index := 1536#32
  ![v2356.toNat, 1536]
def k0_off19 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v2548 : Index := Scalar.indexCast v40
  let c1664 : Index := 1664#32
  ![v2548.toNat, 1664]
def k0_off20 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v2740 : Index := Scalar.indexCast v40
  let c1792 : Index := 1792#32
  ![v2740.toNat, 1792]
def k0_off21 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v2932 : Index := Scalar.indexCast v40
  let c1920 : Index := 1920#32
  ![v2932.toNat, 1920]
def k0_off22 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v3124 : Index := Scalar.indexCast v40
  let c2048 : Index := 2048#32
  ![v3124.toNat, 2048]
def k0_off23 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v3316 : Index := Scalar.indexCast v40
  let c2176 : Index := 2176#32
  ![v3316.toNat, 2176]
def k0_off24 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v3508 : Index := Scalar.indexCast v40
  let c2304 : Index := 2304#32
  ![v3508.toNat, 2304]
def k0_off25 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v3700 : Index := Scalar.indexCast v40
  let c2432 : Index := 2432#32
  ![v3700.toNat, 2432]
def k0_off26 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v3892 : Index := Scalar.indexCast v40
  let c2560 : Index := 2560#32
  ![v3892.toNat, 2560]
def k0_off27 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v4084 : Index := Scalar.indexCast v40
  let c2688 : Index := 2688#32
  ![v4084.toNat, 2688]
def k0_off28 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v4276 : Index := Scalar.indexCast v40
  let c2816 : Index := 2816#32
  ![v4276.toNat, 2816]
def k0_off29 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v4468 : Index := Scalar.indexCast v40
  let c2944 : Index := 2944#32
  ![v4468.toNat, 2944]
def k0_off30 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v4660 : Index := Scalar.indexCast v40
  let c3072 : Index := 3072#32
  ![v4660.toNat, 3072]
def k0_off31 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v4852 : Index := Scalar.indexCast v40
  let c3200 : Index := 3200#32
  ![v4852.toNat, 3200]
def k0_off32 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v5044 : Index := Scalar.indexCast v40
  let c3328 : Index := 3328#32
  ![v5044.toNat, 3328]
def k0_off33 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v5236 : Index := Scalar.indexCast v40
  let c3456 : Index := 3456#32
  ![v5236.toNat, 3456]
def k0_off34 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v5428 : Index := Scalar.indexCast v40
  let c3584 : Index := 3584#32
  ![v5428.toNat, 3584]
def k0_off35 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v5620 : Index := Scalar.indexCast v40
  let c3712 : Index := 3712#32
  ![v5620.toNat, 3712]
def k0_off36 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v5812 : Index := Scalar.indexCast v40
  let c3840 : Index := 3840#32
  ![v5812.toNat, 3840]
def k0_off37 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v6004 : Index := Scalar.indexCast v40
  let c3968 : Index := 3968#32
  ![v6004.toNat, 3968]
def k0_off38 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v6196 : Index := Scalar.indexCast v40
  let c4096 : Index := 4096#32
  ![v6196.toNat, 4096]
def k0_off39 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v6388 : Index := Scalar.indexCast v40
  let c4224 : Index := 4224#32
  ![v6388.toNat, 4224]
def k0_off40 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v6580 : Index := Scalar.indexCast v40
  let c4352 : Index := 4352#32
  ![v6580.toNat, 4352]
def k0_off41 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v6772 : Index := Scalar.indexCast v40
  let c4480 : Index := 4480#32
  ![v6772.toNat, 4480]
def k0_off42 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v6964 : Index := Scalar.indexCast v40
  let c4608 : Index := 4608#32
  ![v6964.toNat, 4608]
def k0_off43 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v7156 : Index := Scalar.indexCast v40
  let c4736 : Index := 4736#32
  ![v7156.toNat, 4736]
def k0_off44 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v7348 : Index := Scalar.indexCast v40
  let c4864 : Index := 4864#32
  ![v7348.toNat, 4864]
def k0_off45 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v7540 : Index := Scalar.indexCast v40
  let c4992 : Index := 4992#32
  ![v7540.toNat, 4992]
def k0_off46 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v7732 : Index := Scalar.indexCast v40
  let c5120 : Index := 5120#32
  ![v7732.toNat, 5120]
def k0_off47 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v7924 : Index := Scalar.indexCast v40
  let c5248 : Index := 5248#32
  ![v7924.toNat, 5248]
def k0_off48 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v8116 : Index := Scalar.indexCast v40
  let c5376 : Index := 5376#32
  ![v8116.toNat, 5376]
def k0_off49 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v8308 : Index := Scalar.indexCast v40
  let c5504 : Index := 5504#32
  ![v8308.toNat, 5504]
def k0_off50 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v8500 : Index := Scalar.indexCast v40
  let c5632 : Index := 5632#32
  ![v8500.toNat, 5632]
def k0_off51 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v8692 : Index := Scalar.indexCast v40
  let c5760 : Index := 5760#32
  ![v8692.toNat, 5760]
def k0_off52 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v8884 : Index := Scalar.indexCast v40
  let c5888 : Index := 5888#32
  ![v8884.toNat, 5888]
def k0_off53 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v9076 : Index := Scalar.indexCast v40
  let c6016 : Index := 6016#32
  ![v9076.toNat, 6016]
def k0_off54 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v9268 : Index := Scalar.indexCast v40
  let c6144 : Index := 6144#32
  ![v9268.toNat, 6144]
def k0_off55 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v9460 : Index := Scalar.indexCast v40
  let c6272 : Index := 6272#32
  ![v9460.toNat, 6272]
def k0_off56 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v9652 : Index := Scalar.indexCast v40
  let c6400 : Index := 6400#32
  ![v9652.toNat, 6400]
def k0_off57 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v9844 : Index := Scalar.indexCast v40
  let c6528 : Index := 6528#32
  ![v9844.toNat, 6528]
def k0_off58 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v10036 : Index := Scalar.indexCast v40
  let c6656 : Index := 6656#32
  ![v10036.toNat, 6656]
def k0_off59 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v10228 : Index := Scalar.indexCast v40
  let c6784 : Index := 6784#32
  ![v10228.toNat, 6784]
def k0_off60 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v10420 : Index := Scalar.indexCast v40
  let c6912 : Index := 6912#32
  ![v10420.toNat, 6912]
def k0_off61 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v10612 : Index := Scalar.indexCast v40
  let c7040 : Index := 7040#32
  ![v10612.toNat, 7040]
def k0_off62 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v10807 : Index := Scalar.indexCast v40
  let c0_3522 : Index := 0#32
  ![v10807.toNat, 0]
def k0_off63 (k0_t1 : Fin k0_t1_loop.trips) : Fin 2 → Nat :=
  let c0_i32_14 : BitVec 32 := 0#32
  let c1_i32 : BitVec 32 := 1#32
  let arg15 : BitVec 32 := Scf.iv c0_i32_14 c1_i32 k0_t1
  let c32_i32 : BitVec 32 := 32#32
  let v39 : BitVec 32 := Scalar.muli arg15 c32_i32
  let v40 : BitVec 32 := v39
  let v10813 : Index := Scalar.indexCast v40
  let c128_3524 : Index := 128#32
  ![v10813.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x512 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S256x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x224 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== KernelIdeal.lean ====
variable {F : FTy → Type} [FloatOps F] [Named F]
def κ : String → Option EReal := fun
  | "inv_n" => some ((1 / 7168 : ℝ) : EReal)
  | _ => none
-- ==== ReferenceIdeal.lean ====
abbrev S2x128x16384 : Shape := ⟨3, ![2, 128, 16384]⟩
abbrev S2x128x512 : Shape := ⟨3, ![2, 128, 512]⟩
abbrev S16384x7168 : Shape := ⟨2, ![16384, 7168]⟩
abbrev S512x7168 : Shape := ⟨2, ![512, 7168]⟩
abbrev S2x128x7168 : Shape := ⟨3, ![2, 128, 7168]⟩
abbrev S7168 : Shape := ⟨1, ![7168]⟩
abbrev S256x16384 : Shape := ⟨2, ![256, 16384]⟩
abbrev S256x512 : Shape := ⟨2, ![256, 512]⟩
abbrev S256x7168 : Shape := ⟨2, ![256, 7168]⟩
abbrev S1x7168 : Shape := ⟨2, ![1, 7168]⟩
abbrev S256x224 : Shape := ⟨2, ![256, 224]⟩
abbrev S256x512x32 : Shape := ⟨3, ![256, 512, 32]⟩
abbrev S256x512x1 : Shape := ⟨3, ![256, 512, 1]⟩
abbrev S512x32x7168 : Shape := ⟨3, ![512, 32, 7168]⟩
abbrev S512x1x7168 : Shape := ⟨3, ![512, 1, 7168]⟩
abbrev S256 : Shape := ⟨1, ![256]⟩
abbrev S256x1 : Shape := ⟨2, ![256, 1]⟩
abbrev S256x224x32 : Shape := ⟨3, ![256, 224, 32]⟩
abbrev S256x224x1 : Shape := ⟨3, ![256, 224, 1]⟩
abbrev S256x224x254 : Shape := ⟨3, ![256, 224, 254]⟩

abbrev nBuf : Space → Nat
  | .hbm => 13
  | .vmem => 9
  | .smem => 0
  | _ => 0

abbrev bufTy : (tb : Table) → Fin (tcTables nBuf tb) → BufTy
  | .hbm, ⟨0, _⟩ => ⟨S2x128x16384, .fp8e4m3⟩
  | .hbm, ⟨1, _⟩ => ⟨S2x128x512, .i8⟩
  | .hbm, ⟨2, _⟩ => ⟨S16384x7168, .fp8e4m3⟩
  | .hbm, ⟨3, _⟩ => ⟨S512x7168, .i8⟩
  | .hbm, ⟨4, _⟩ => ⟨S2x128x7168, .bf16⟩
  | .hbm, ⟨5, _⟩ => ⟨S7168, .f32⟩
  | .hbm, ⟨6, _⟩ => ⟨S256x16384, .fp8e4m3⟩
  | .hbm, ⟨7, _⟩ => ⟨S256x512, .i8⟩
  | .hbm, ⟨8, _⟩ => ⟨S256x7168, .bf16⟩
  | .hbm, ⟨9, _⟩ => ⟨S1x7168, .f32⟩
  | .hbm, ⟨10, _⟩ => ⟨S256x7168, .bf16⟩
  | .hbm, ⟨11, _⟩ => ⟨S256x7168, .fp8e4m3⟩
  | .hbm, ⟨12, _⟩ => ⟨S256x224, .i8⟩
  | .local _ .vmem, ⟨0, _⟩ => ⟨S256x16384, .fp8e4m3⟩
  | .local _ .vmem, ⟨1, _⟩ => ⟨S256x512, .i8⟩
  | .local _ .vmem, ⟨2, _⟩ => ⟨S16384x7168, .fp8e4m3⟩
  | .local _ .vmem, ⟨3, _⟩ => ⟨S512x7168, .i8⟩
  | .local _ .vmem, ⟨4, _⟩ => ⟨S256x7168, .bf16⟩
  | .local _ .vmem, ⟨5, _⟩ => ⟨S1x7168, .f32⟩
  | .local _ .vmem, ⟨6, _⟩ => ⟨S256x7168, .bf16⟩
  | .local _ .vmem, ⟨7, _⟩ => ⟨S256x7168, .fp8e4m3⟩
  | .local _ .vmem, ⟨8, _⟩ => ⟨S256x224, .i8⟩
  | _, _ => ⟨S2x128x16384, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x16384 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x7168 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x7168 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x224 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KRuns.lean ====
/-
  ONE POINT OF THE GRID. The body is run once for each of the seven ways its conditions can fall — the first column block
  (which also scales its share of the activations) or a later one; the first, a middle or the last block of the
  contraction; the very last point, which also quantises — and each run hands back every buffer with the list of stores
  it made into it, last first.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's condition "the first block of the contraction", as the body computes it. -/
abbrev cond2 (i : grid0.Coords) : BitVec 1 :=
  Scalar.cmpi .ne (Scalar.extui (Scalar.cmpi .eq (BitVec.ofNat 32 (i 1).val) 0#32) : BitVec 32) 0#32
/-- "The first column block" and "a later column block", as the body computes them before its sums of squares. -/
abbrev cond4 (i : grid0.Coords) : BitVec 1 :=
  Scalar.cmpi .ne (Scalar.extui (Scalar.cmpi .eq (BitVec.ofNat 32 (i 0).val) 0#32) : BitVec 32) 0#32
abbrev cond5 (i : grid0.Coords) : BitVec 1 :=
  Scalar.cmpi .ne (Scalar.extui (Scalar.cmpi .sgt (BitVec.ofNat 32 (i 0).val) 0#32) : BitVec 32) 0#32

/-- Every buffer of the body, each at named contents. -/
abbrev St (c : Dev nD) (arg2 : Memref sig .tc .vmem S256x16384 .fp8e4m3) (arg3 : Memref sig .tc .vmem S256x512 .i8) (arg4 : Memref sig .tc .vmem S4096x512 .fp8e4m3) (arg5 : Memref sig .tc .vmem S128x512 .i8) (arg6 : Memref sig .tc .vmem S256x512 .bf16) (arg7 : Memref sig .tc .vmem S1x7168 .f32) (arg8 : Memref sig .tc .vmem S256x512 .bf16) (arg9 : Memref sig .tc .vmem S256x7168 .fp8e4m3) (arg10 : Memref sig .tc .vmem S256x224 .i8) (arg11 : Memref sig .tc .vmem S256x16384 .bf16) (arg12 : Memref sig .tc .vmem S256x512 .f32) (arg13 : Memref sig .tc .vmem S256x7168 .bf16) (arg14 : Memref sig .tc .vmem S256x128 .f32)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

/-- The body at first column block, first block of the contraction. -/
@[irreducible] def runA0 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : k0_cond1 i = 1#1) (h2 : cond2 i = 1#1) (h3 : ¬ k0_cond3 i = 1#1) (h4 : cond4 i = 1#1) (h5 : ¬ cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L11 : List (View.Piece (Elt F) S256x16384 .bf16)), { L12 : List (View.Piece (Elt F) S256x512 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 f8 f9 f10 (arg11.view.writes (Elt F) f11 L11) (arg12.view.writes (Elt F) f12 L12) f13 f14) } := by
  refine ⟨?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at first column block, a middle block of the contraction. -/
@[irreducible] def runA1 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : k0_cond1 i = 1#1) (h2 : ¬ cond2 i = 1#1) (h3 : ¬ k0_cond3 i = 1#1) (h4 : cond4 i = 1#1) (h5 : ¬ cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L11 : List (View.Piece (Elt F) S256x16384 .bf16)), { L12 : List (View.Piece (Elt F) S256x512 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 f8 f9 f10 (arg11.view.writes (Elt F) f11 L11) (arg12.view.writes (Elt F) f12 L12) f13 f14) } := by
  refine ⟨?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at first column block, last block of the contraction. -/
@[irreducible] def runA3 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : k0_cond1 i = 1#1) (h2 : ¬ cond2 i = 1#1) (h3 : k0_cond3 i = 1#1) (h4 : cond4 i = 1#1) (h5 : ¬ cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L8 : List (View.Piece (Elt F) S256x512 .bf16)), Σ' (L11 : List (View.Piece (Elt F) S256x16384 .bf16)), Σ' (L12 : List (View.Piece (Elt F) S256x512 .f32)), Σ' (L13 : List (View.Piece (Elt F) S256x7168 .bf16)), { L14 : List (View.Piece (Elt F) S256x128 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 (arg8.view.writes (Elt F) f8 L8) f9 f10 (arg11.view.writes (Elt F) f11 L11) (arg12.view.writes (Elt F) f12 L12) (arg13.view.writes (Elt F) f13 L13) (arg14.view.writes (Elt F) f14 L14)) } := by
  refine ⟨?_, ?_, ?_, ?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at a later column block, first block of the contraction. -/
@[irreducible] def runB0 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : cond2 i = 1#1) (h3 : ¬ k0_cond3 i = 1#1) (h4 : ¬ cond4 i = 1#1) (h5 : cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    { L12 : List (View.Piece (Elt F) S256x512 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 f8 f9 f10 f11 (arg12.view.writes (Elt F) f12 L12) f13 f14) } := by
  refine ⟨?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at a later column block, a middle block of the contraction. -/
@[irreducible] def runB1 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : ¬ cond2 i = 1#1) (h3 : ¬ k0_cond3 i = 1#1) (h4 : ¬ cond4 i = 1#1) (h5 : cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    { L12 : List (View.Piece (Elt F) S256x512 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 f8 f9 f10 f11 (arg12.view.writes (Elt F) f12 L12) f13 f14) } := by
  refine ⟨?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at a later column block, last block of the contraction. -/
@[irreducible] def runB3 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : ¬ cond2 i = 1#1) (h3 : k0_cond3 i = 1#1) (h4 : ¬ cond4 i = 1#1) (h5 : cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L8 : List (View.Piece (Elt F) S256x512 .bf16)), Σ' (L12 : List (View.Piece (Elt F) S256x512 .f32)), Σ' (L13 : List (View.Piece (Elt F) S256x7168 .bf16)), { L14 : List (View.Piece (Elt F) S256x128 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 (arg8.view.writes (Elt F) f8 L8) f9 f10 f11 (arg12.view.writes (Elt F) f12 L12) (arg13.view.writes (Elt F) f13 L13) (arg14.view.writes (Elt F) f14 L14)) } := by
  refine ⟨?_, ?_, ?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at the last point. -/
@[irreducible] def runB4 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : ¬ cond2 i = 1#1) (h3 : k0_cond3 i = 1#1) (h4 : ¬ cond4 i = 1#1) (h5 : cond5 i = 1#1) (h6 : k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L8 : List (View.Piece (Elt F) S256x512 .bf16)), Σ' (L9 : List (View.Piece (Elt F) S256x7168 .fp8e4m3)), Σ' (L10 : List (View.Piece (Elt F) S256x224 .i8)), Σ' (L12 : List (View.Piece (Elt F) S256x512 .f32)), Σ' (L13 : List (View.Piece (Elt F) S256x7168 .bf16)), { L14 : List (View.Piece (Elt F) S256x128 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 (arg8.view.writes (Elt F) arg8.view.junk L8) (arg9.view.writes (Elt F) f9 L9) (arg10.view.writes (Elt F) f10 L10) f11 (arg12.view.writes (Elt F) arg12.view.junk L12) (arg13.view.writes (Elt F) f13 L13) (arg14.view.writes (Elt F) arg14.view.junk L14)) } := by
  refine ⟨?_, ?_, ?_, ?_, ?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

end Cert.Kernel.Hand

end
-- ==== Proof.KBody.lean ====
/-
  THE BODY AT A POINT OF THE GRID. Point `t` is column block `t / 4` and contraction block `t % 4`; which of the body's
  conditions hold there is decided over the grid's 56 points, and the run of that case (KRuns.lean) applies. `Outcome` says
  which contents the run leaves: the seven cases, each with its list of stores.
-/
module

public import proofs.«01_k».proof.Proof.KRuns
public import Idealize.ShloMosaic.Lib.Pipeline.Frame
public import Idealize.ShloMosaic.Lib.Tactic

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body leaves in the buffers it writes, from the contents `f` it found. -/
inductive Outcome (c : Dev nD) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop
  | A0 (h1 : k0_cond1 i = 1#1) (h2 : cond2 i = 1#1) (h3 : ¬ k0_cond3 i = 1#1) (h4 : cond4 i = 1#1) (h5 : ¬ cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        f8
        f9
        f10
        (arg11.view.writes (Elt F) f11 (runA0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        (arg12.view.writes (Elt F) f12 (runA0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        f13
        f14
  | A1 (h1 : k0_cond1 i = 1#1) (h2 : ¬ cond2 i = 1#1) (h3 : ¬ k0_cond3 i = 1#1) (h4 : cond4 i = 1#1) (h5 : ¬ cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        f8
        f9
        f10
        (arg11.view.writes (Elt F) f11 (runA1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        (arg12.view.writes (Elt F) f12 (runA1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        f13
        f14
  | A3 (h1 : k0_cond1 i = 1#1) (h2 : ¬ cond2 i = 1#1) (h3 : k0_cond3 i = 1#1) (h4 : cond4 i = 1#1) (h5 : ¬ cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        (arg8.view.writes (Elt F) f8 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        f9
        f10
        (arg11.view.writes (Elt F) f11 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        (arg12.view.writes (Elt F) f12 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.1)
        (arg13.view.writes (Elt F) f13 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.1)
        (arg14.view.writes (Elt F) f14 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.1)
  | B0 (h1 : ¬ k0_cond1 i = 1#1) (h2 : cond2 i = 1#1) (h3 : ¬ k0_cond3 i = 1#1) (h4 : ¬ cond4 i = 1#1) (h5 : cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        f8
        f9
        f10
        f11
        (arg12.view.writes (Elt F) f12 (runB0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        f13
        f14
  | B1 (h1 : ¬ k0_cond1 i = 1#1) (h2 : ¬ cond2 i = 1#1) (h3 : ¬ k0_cond3 i = 1#1) (h4 : ¬ cond4 i = 1#1) (h5 : cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        f8
        f9
        f10
        f11
        (arg12.view.writes (Elt F) f12 (runB1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        f13
        f14
  | B3 (h1 : ¬ k0_cond1 i = 1#1) (h2 : ¬ cond2 i = 1#1) (h3 : k0_cond3 i = 1#1) (h4 : ¬ cond4 i = 1#1) (h5 : cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        (arg8.view.writes (Elt F) f8 (runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        f9
        f10
        f11
        (arg12.view.writes (Elt F) f12 (runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        (arg13.view.writes (Elt F) f13 (runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.1)
        (arg14.view.writes (Elt F) f14 (runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.1)
  | B4 (h1 : ¬ k0_cond1 i = 1#1) (h2 : ¬ cond2 i = 1#1) (h3 : k0_cond3 i = 1#1) (h4 : ¬ cond4 i = 1#1) (h5 : cond5 i = 1#1) (h6 : k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        (arg8.view.writes (Elt F) arg8.view.junk (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        (arg9.view.writes (Elt F) f9 (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        (arg10.view.writes (Elt F) f10 (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.1)
        f11
        (arg12.view.writes (Elt F) arg12.view.junk (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.1)
        (arg13.view.writes (Elt F) f13 (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.1)
        (arg14.view.writes (Elt F) arg14.view.junk (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2.1)

/-- Which conditions hold at a point. -/
theorem pt_cond1 : ∀ t : Fin grid0.N, k0_cond1 (grid0.coords t) = 1#1 ↔ t.val < 4 := by decide +kernel
theorem pt_cond2 : ∀ t : Fin grid0.N, cond2 (grid0.coords t) = 1#1 ↔ t.val % 4 = 0 := by decide +kernel
theorem pt_cond3 : ∀ t : Fin grid0.N, k0_cond3 (grid0.coords t) = 1#1 ↔ t.val % 4 = 3 := by decide +kernel
theorem pt_cond4 : ∀ t : Fin grid0.N, cond4 (grid0.coords t) = 1#1 ↔ t.val < 4 := by decide +kernel
theorem pt_cond5 : ∀ t : Fin grid0.N, cond5 (grid0.coords t) = 1#1 ↔ ¬ t.val < 4 := by decide +kernel
theorem pt_cond6 : ∀ t : Fin grid0.N, k0_cond6 (grid0.coords t) = 1#1 ↔ t.val = 55 := by decide +kernel

/-- The body's conditions at one point, as its cases need them. -/
structure Conds (i : grid0.Coords) : Prop where
  c4 : cond4 i = 1#1 ↔ k0_cond1 i = 1#1
  c5 : cond5 i = 1#1 ↔ ¬ k0_cond1 i = 1#1
  c23 : cond2 i = 1#1 → ¬ k0_cond3 i = 1#1
  c63 : k0_cond6 i = 1#1 → k0_cond3 i = 1#1
  c61 : k0_cond6 i = 1#1 → ¬ k0_cond1 i = 1#1

theorem conds (t : Fin grid0.N) : Conds (grid0.coords t) := by
  have h1 := pt_cond1 t; have h2 := pt_cond2 t; have h3 := pt_cond3 t
  have h4 := pt_cond4 t; have h5 := pt_cond5 t; have h6 := pt_cond6 t
  constructor <;> simp only [h1, h2, h3, h4, h5, h6] <;> omega

/-- The body at a point, from any contents, ends in one of the outcomes. -/
theorem body_outcome (c : Dev nD) (i : grid0.Coords) (hi : Conds i) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (E : Set ℕ) :
    St (F := F) c arg2 arg3 arg4 arg5 arg6 arg7 arg8 arg9 arg10 arg11 arg12 arg13 arg14 f2 f3 f4 f5 f6 f7 f8 f9 f10 f11 f12 f13 f14
      ⊢ wp frame (wpE (defs₀ (F := F)) Variants.none (c : Thread nD τ) none) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => iprop(∃ g8 g9 g10 g11 g12 g13 g14, ⌜Outcome (F := F) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14⌝
            ∗ St (F := F) c arg2 arg3 arg4 arg5 arg6 arg7 arg8 arg9 arg10 arg11 arg12 arg13 arg14 f2 f3 f4 f5 f6 f7 g8 g9 g10 g11 g12 g13 g14)) := by
  have fin : ∀ g8 g9 g10 g11 g12 g13 g14, Outcome (F := F) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14 →
      St (F := F) c arg2 arg3 arg4 arg5 arg6 arg7 arg8 arg9 arg10 arg11 arg12 arg13 arg14 f2 f3 f4 f5 f6 f7 g8 g9 g10 g11 g12 g13 g14
        ⊢ iprop(∃ g8 g9 g10 g11 g12 g13 g14, ⌜Outcome (F := F) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14⌝
            ∗ St (F := F) c arg2 arg3 arg4 arg5 arg6 arg7 arg8 arg9 arg10 arg11 arg12 arg13 arg14 f2 f3 f4 f5 f6 f7 g8 g9 g10 g11 g12 g13 g14) := by
    intro g8 g9 g10 g11 g12 g13 g14 ho
    iintro H
    iexists g8, g9, g10, g11, g12, g13, g14
    isplitr
    · ipureintro; exact ho
    iexact H
  obtain ⟨c4, c5, c23, c63, c61⟩ := hi
  by_cases h1 : k0_cond1 i = 1#1
  · have h4 := c4.mpr h1
    have h5 : ¬ cond5 i = 1#1 := fun h => c5.mp h h1
    have h6 : ¬ k0_cond6 i = 1#1 := fun h => c61 h h1
    by_cases h3 : k0_cond3 i = 1#1
    · have h2 : ¬ cond2 i = 1#1 := fun h => c23 h h3
      exact ((runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2 E).trans
        ((wp _ _ _ _).mono fun _ => fin _ _ _ _ _ _ _ (.A3 h1 h2 h3 h4 h5 h6))
    · by_cases h2 : cond2 i = 1#1
      · exact ((runA0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2 E).trans
          ((wp _ _ _ _).mono fun _ => fin _ _ _ _ _ _ _ (.A0 h1 h2 h3 h4 h5 h6))
      · exact ((runA1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2 E).trans
          ((wp _ _ _ _).mono fun _ => fin _ _ _ _ _ _ _ (.A1 h1 h2 h3 h4 h5 h6))
  · have h4 : ¬ cond4 i = 1#1 := fun h => h1 (c4.mp h)
    have h5 := c5.mpr h1
    by_cases h3 : k0_cond3 i = 1#1
    · have h2 : ¬ cond2 i = 1#1 := fun h => c23 h h3
      by_cases h6 : k0_cond6 i = 1#1
      · exact ((runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2.2 E).trans
          ((wp _ _ _ _).mono fun _ => fin _ _ _ _ _ _ _ (.B4 h1 h2 h3 h4 h5 h6))
      · exact ((runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2 E).trans
          ((wp _ _ _ _).mono fun _ => fin _ _ _ _ _ _ _ (.B3 h1 h2 h3 h4 h5 h6))
    · have h6 : ¬ k0_cond6 i = 1#1 := fun h => h3 (c63 h)
      by_cases h2 : cond2 i = 1#1
      · exact ((runB0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2 E).trans
          ((wp _ _ _ _).mono fun _ => fin _ _ _ _ _ _ _ (.B0 h1 h2 h3 h4 h5 h6))
      · exact ((runB1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2 E).trans
          ((wp _ _ _ _).mono fun _ => fin _ _ _ _ _ _ _ (.B1 h1 h2 h3 h4 h5 h6))

/-- The same for any continuation of the outcomes. -/
theorem body_run (c : Dev nD) (i : grid0.Coords) (hi : Conds i) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (E : Set ℕ) (K : PUnit → sProp 𝕄) :
    iprop(St (F := F) c arg2 arg3 arg4 arg5 arg6 arg7 arg8 arg9 arg10 arg11 arg12 arg13 arg14 f2 f3 f4 f5 f6 f7 f8 f9 f10 f11 f12 f13 f14 ∗ ∀ a, (∃ g8 g9 g10 g11 g12 g13 g14, ⌜Outcome (F := F) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14⌝
            ∗ St (F := F) c arg2 arg3 arg4 arg5 arg6 arg7 arg8 arg9 arg10 arg11 arg12 arg13 arg14 f2 f3 f4 f5 f6 f7 g8 g9 g10 g11 g12 g13 g14) -∗ K a)
      ⊢ wp frame (wpE (defs₀ (F := F)) Variants.none (c : Thread nD τ) none) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14) K :=
  (sep_mono (body_outcome (F := F) c i hi arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 E) .rfl).trans (wp_wand_r _ _ _)

end Cert.Kernel.Hand

end
-- ==== Proof.KLaunch.lean ====
/-
  THE WHOLE GRID, RUN. The body is handed its buffers by the pipeline knowing what each may hold, and keeps four buffers of
  its own from point to point: the scaled activations, the accumulator, the residual sums and the lane sums of squares. The
  pipeline is run once here for ANY statement `Inv` about those four and any relation `aft` of what is left in a window,
  given that one point carries them on (`Carries`): with nothing stated this is the frame, with the kernel's arithmetic
  stated it is the value.
-/
module

public import proofs.«01_k».proof.Proof.KBody
public import Idealize.ShloMosaic.Lib.Pipeline.ArrRel

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is stated, before point `n`, of the four buffers the body keeps. -/
abbrev InvT (F : FTy → Type) := Dev nD → ℕ → (S256x16384.Idx → Elt F .bf16) → (S256x512.Idx → Elt F .f32)
  → (S256x7168.Idx → Elt F .bf16) → (S256x128.Idx → Elt F .f32) → Prop
/-- What is stated of each window's buffer after a point. -/
abbrev AftT (F : FTy → Type) := Dev nD → (w : Fin cfg0.W) → Fin cfg0.N → (Y X : (cfg0.win w).block.Idx → Elt F (cfg0.win w).elt) → Prop

/-- The four kept buffers at contents of which `Inv` holds, and the generator register. -/
def Keeps (Inv : InvT F) (c : Dev nD) (n : ℕ) : sProp 𝕄 :=
  iprop((∃ f11 f12 f13 f14, ⌜Inv c n f11 f12 f13 f14⌝
    ∗ ((Memref.whole cc0_scratch0).view.loc (c : Thread nD τ) ↦[(Memref.whole cc0_scratch0).view.set]{fullShare} f11) ∗ ((Memref.whole cc0_scratch1).view.loc (c : Thread nD τ) ↦[(Memref.whole cc0_scratch1).view.set]{fullShare} f12) ∗ ((Memref.whole cc0_scratch2).view.loc (c : Thread nD τ) ↦[(Memref.whole cc0_scratch2).view.set]{fullShare} f13) ∗ ((Memref.whole cc0_scratch3).view.loc (c : Thread nD τ) ↦[(Memref.whole cc0_scratch3).view.set]{fullShare} f14))
    ∗ ∃ r, prngReg c r)

/-- The proof data. -/
def rdat (Inv : InvT F) (aft : AftT F) (c : Dev nD) : RDat τ (Elt F) Unit ℕ (UR sig nD τ) ℕ cfg0 c where
  A w := V m c (Pipeline.arrRef spec0 w)
  after w t := aft c w t
  Φ t := Keeps Inv c t.val
  q _ := fullShare
  owed _ := 0

/-- One point carries the statements on. -/
def Carries (Inv : InvT F) (aft : AftT F) : Prop :=
  ∀ (c : Dev nD) (t : Fin cfg0.N) (f2 : BufTy.Contents (Elt F) (win0_0.stage (cfg0.slots t 0)).view.ty) (f3 : BufTy.Contents (Elt F) (win0_1.stage (cfg0.slots t 1)).view.ty) (f4 : BufTy.Contents (Elt F) (win0_2.stage (cfg0.slots t 2)).view.ty) (f5 : BufTy.Contents (Elt F) (win0_3.stage (cfg0.slots t 3)).view.ty) (f6 : BufTy.Contents (Elt F) (win0_4.stage (cfg0.slots t 4)).view.ty) (f7 : BufTy.Contents (Elt F) (win0_5.stage (cfg0.slots t 5)).view.ty) (f8 : BufTy.Contents (Elt F) (win0_6.stage (cfg0.slots t 6)).view.ty) (f9 : BufTy.Contents (Elt F) (win0_7.stage (cfg0.slots t 7)).view.ty) (f10 : BufTy.Contents (Elt F) (win0_8.stage (cfg0.slots t 8)).view.ty) (f11 : BufTy.Contents (Elt F) (Memref.whole cc0_scratch0).view.ty) (f12 : BufTy.Contents (Elt F) (Memref.whole cc0_scratch1).view.ty) (f13 : BufTy.Contents (Elt F) (Memref.whole cc0_scratch2).view.ty) (f14 : BufTy.Contents (Elt F) (Memref.whole cc0_scratch3).view.ty)
    (g8 : BufTy.Contents (Elt F) (win0_6.stage (cfg0.slots t 6)).view.ty) (g9 : BufTy.Contents (Elt F) (win0_7.stage (cfg0.slots t 7)).view.ty) (g10 : BufTy.Contents (Elt F) (win0_8.stage (cfg0.slots t 8)).view.ty) (g11 : BufTy.Contents (Elt F) (Memref.whole cc0_scratch0).view.ty) (g12 : BufTy.Contents (Elt F) (Memref.whole cc0_scratch1).view.ty) (g13 : BufTy.Contents (Elt F) (Memref.whole cc0_scratch2).view.ty) (g14 : BufTy.Contents (Elt F) (Memref.whole cc0_scratch3).view.ty),
    (rdat m Inv aft c).Finds 0 t ((win0_0.stage (cfg0.slots t 0)).view.read (Elt F) f2) → (rdat m Inv aft c).Finds 1 t ((win0_1.stage (cfg0.slots t 1)).view.read (Elt F) f3) → (rdat m Inv aft c).Finds 2 t ((win0_2.stage (cfg0.slots t 2)).view.read (Elt F) f4) → (rdat m Inv aft c).Finds 3 t ((win0_3.stage (cfg0.slots t 3)).view.read (Elt F) f5) → (rdat m Inv aft c).Finds 4 t ((win0_4.stage (cfg0.slots t 4)).view.read (Elt F) f6) → (rdat m Inv aft c).Finds 5 t ((win0_5.stage (cfg0.slots t 5)).view.read (Elt F) f7) → (rdat m Inv aft c).Finds 6 t ((win0_6.stage (cfg0.slots t 6)).view.read (Elt F) f8) → (rdat m Inv aft c).Finds 7 t ((win0_7.stage (cfg0.slots t 7)).view.read (Elt F) f9) → (rdat m Inv aft c).Finds 8 t ((win0_8.stage (cfg0.slots t 8)).view.read (Elt F) f10)
    → Inv c t.val f11 f12 f13 f14
    → Outcome (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) f2 f3 f4 f5 f6 f7 f8 f9 f10 f11 f12 f13 f14 g8 g9 g10 g11 g12 g13 g14
    → Inv c (t.val + 1) g11 g12 g13 g14
      ∧ aft c 0 t ((win0_0.stage (cfg0.slots t 0)).view.read (Elt F) f2) ((win0_0.stage (cfg0.slots t 0)).view.read (Elt F) f2) ∧ aft c 1 t ((win0_1.stage (cfg0.slots t 1)).view.read (Elt F) f3) ((win0_1.stage (cfg0.slots t 1)).view.read (Elt F) f3) ∧ aft c 2 t ((win0_2.stage (cfg0.slots t 2)).view.read (Elt F) f4) ((win0_2.stage (cfg0.slots t 2)).view.read (Elt F) f4) ∧ aft c 3 t ((win0_3.stage (cfg0.slots t 3)).view.read (Elt F) f5) ((win0_3.stage (cfg0.slots t 3)).view.read (Elt F) f5) ∧ aft c 4 t ((win0_4.stage (cfg0.slots t 4)).view.read (Elt F) f6) ((win0_4.stage (cfg0.slots t 4)).view.read (Elt F) f6) ∧ aft c 5 t ((win0_5.stage (cfg0.slots t 5)).view.read (Elt F) f7) ((win0_5.stage (cfg0.slots t 5)).view.read (Elt F) f7) ∧ aft c 6 t ((win0_6.stage (cfg0.slots t 6)).view.read (Elt F) f8) ((win0_6.stage (cfg0.slots t 6)).view.read (Elt F) g8) ∧ aft c 7 t ((win0_7.stage (cfg0.slots t 7)).view.read (Elt F) f9) ((win0_7.stage (cfg0.slots t 7)).view.read (Elt F) g9) ∧ aft c 8 t ((win0_8.stage (cfg0.slots t 8)).view.read (Elt F) f10) ((win0_8.stage (cfg0.slots t 8)).view.read (Elt F) g10)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

variable {m}

/-- A buffer at contents of which `P` holds is given back as the pipeline takes it. -/
theorem give_back (c : Dev nD) {sp : Space} {sh : Shape} {e : EltTy} (M : Memref sig .tc sp sh e) (P : (sh.Idx → Elt F e) → Prop)
    (g : M.view.ty.Contents (Elt F)) (h : P (M.view.read (Elt F) g)) :
    (M.view.loc (c : Thread nD τ) ↦[M.view.set]{fullShare} g : sProp 𝕄)
      ⊢ iprop(∃ X, ⌜P X⌝ ∗ ∃ f, ⌜M.view.read (Elt F) f = X⌝ ∗ (M.view.loc (c : Thread nD τ) ↦[M.view.set]{fullShare} f)) := by
  iintro H
  iexists (M.view.read (Elt F) g)
  isplitr
  · ipureintro; exact h
  iexists g
  isplitr
  · ipureintro; rfl
  iexact H

theorem sound_body {Inv : InvT F} {aft : AftT F} (hc : Carries m Inv aft) (c : Dev nD) (t : Fin cfg0.N)
    (Y : (w : Fin cfg0.W) → (cfg0.win w).block.Idx → Elt F (cfg0.win w).elt) (hY : ∀ w, (rdat m Inv aft c).Finds w t (Y w)) :
    iprop(Keeps Inv c t.val ∗ (rdat m Inv aft c).owesAt () t.castSucc
      ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8))
    ⊢ wp frame (wpE (defs₀ (F := F)) Variants.none c none) Set.univ (bodyAt0 t)
      (fun _ => iprop(Keeps Inv c (t.val + 1) ∗ (rdat m Inv aft c).owesAt () t.succ
        ∗ (∃ X, ⌜aft c 0 t (Y 0) X⌝ ∗ owns (c : Thread nD τ) (win0_0.stage (cfg0.slots t 0)) fullShare X) ∗ (∃ X, ⌜aft c 1 t (Y 1) X⌝ ∗ owns (c : Thread nD τ) (win0_1.stage (cfg0.slots t 1)) fullShare X) ∗ (∃ X, ⌜aft c 2 t (Y 2) X⌝ ∗ owns (c : Thread nD τ) (win0_2.stage (cfg0.slots t 2)) fullShare X) ∗ (∃ X, ⌜aft c 3 t (Y 3) X⌝ ∗ owns (c : Thread nD τ) (win0_3.stage (cfg0.slots t 3)) fullShare X) ∗ (∃ X, ⌜aft c 4 t (Y 4) X⌝ ∗ owns (c : Thread nD τ) (win0_4.stage (cfg0.slots t 4)) fullShare X) ∗ (∃ X, ⌜aft c 5 t (Y 5) X⌝ ∗ owns (c : Thread nD τ) (win0_5.stage (cfg0.slots t 5)) fullShare X) ∗ (∃ X, ⌜aft c 6 t (Y 6) X⌝ ∗ owns (c : Thread nD τ) (win0_6.stage (cfg0.slots t 6)) fullShare X) ∗ (∃ X, ⌜aft c 7 t (Y 7) X⌝ ∗ owns (c : Thread nD τ) (win0_7.stage (cfg0.slots t 7)) fullShare X) ∗ (∃ X, ⌜aft c 8 t (Y 8) X⌝ ∗ owns (c : Thread nD τ) (win0_8.stage (cfg0.slots t 8)) fullShare X))) := by
  rw [show (rdat m Inv aft c).owesAt () t.succ = (rdat m Inv aft c).owesAt () t.castSucc from rfl]
  unfold Keeps owns
  iintro ⟨⟨⟨%f11, %f12, %f13, %f14, %hI, H11, H12, H13, H14⟩, Hg⟩, HO, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩⟩
  iapply (body_run (F := F) c (grid0.coords t) (conds t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) f2 f3 f4 f5 f6 f7 f8 f9 f10 f11 f12 f13 f14 Set.univ _)
  isplitl [H2 H3 H4 H5 H6 H7 H8 H9 H10 H11 H12 H13 H14]
  · unfold St
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %a ⟨%g8, %g9, %g10, %g11, %g12, %g13, %g14, %ho, Hs⟩
  unfold St
  icases Hs with ⟨H2, H3, H4, H5, H6, H7, H8, H9, H10, H11, H12, H13, H14⟩
  obtain ⟨hI', a0, a1, a2, a3, a4, a5, a6, a7, a8⟩ := hc c t f2 f3 f4 f5 f6 f7 f8 f9 f10 f11 f12 f13 f14 g8 g9 g10 g11 g12 g13 g14 (r2 ▸ hY 0) (r3 ▸ hY 1) (r4 ▸ hY 2) (r5 ▸ hY 3) (r6 ▸ hY 4) (r7 ▸ hY 5) (r8 ▸ hY 6) (r9 ▸ hY 7) (r10 ▸ hY 8) hI ho
  isplitl [H11 H12 H13 H14 Hg]
  · isplitr [Hg]
    · iexists g11, g12, g13, g14
      isplitr; · ipureintro; exact hI'
      isplitl [H11]; · iexact H11
      isplitl [H12]; · iexact H12
      isplitl [H13]; · iexact H13
      iexact H14
    iexact Hg
  isplitl [HO]; · iexact HO
  isplitl [H2]; · iapply (give_back (F := F) c (win0_0.stage (cfg0.slots t 0)) (aft c 0 t (Y 0)) f2 (r2 ▸ a0)); iexact H2
  isplitl [H3]; · iapply (give_back (F := F) c (win0_1.stage (cfg0.slots t 1)) (aft c 1 t (Y 1)) f3 (r3 ▸ a1)); iexact H3
  isplitl [H4]; · iapply (give_back (F := F) c (win0_2.stage (cfg0.slots t 2)) (aft c 2 t (Y 2)) f4 (r4 ▸ a2)); iexact H4
  isplitl [H5]; · iapply (give_back (F := F) c (win0_3.stage (cfg0.slots t 3)) (aft c 3 t (Y 3)) f5 (r5 ▸ a3)); iexact H5
  isplitl [H6]; · iapply (give_back (F := F) c (win0_4.stage (cfg0.slots t 4)) (aft c 4 t (Y 4)) f6 (r6 ▸ a4)); iexact H6
  isplitl [H7]; · iapply (give_back (F := F) c (win0_5.stage (cfg0.slots t 5)) (aft c 5 t (Y 5)) f7 (r7 ▸ a5)); iexact H7
  isplitl [H8]; · iapply (give_back (F := F) c (win0_6.stage (cfg0.slots t 6)) (aft c 6 t (Y 6)) g8 (r8 ▸ a6)); iexact H8
  isplitl [H9]; · iapply (give_back (F := F) c (win0_7.stage (cfg0.slots t 7)) (aft c 7 t (Y 7)) g9 (r9 ▸ a7)); iexact H9
  iapply (give_back (F := F) c (win0_8.stage (cfg0.slots t 8)) (aft c 8 t (Y 8)) g10 (r10 ▸ a8)); iexact H10

theorem body_obligation {Inv : InvT F} {aft : AftT F} (hc : Carries m Inv aft) (c : Dev nD) :
    (rdat m Inv aft c).BodyObligation (defs₀ (F := F)) Variants.none () Set.univ := fun t Y hY => by
  rw [bigSep_W0, bigSep_W0, defs₀_row]
  exact triple_restated (sound_body hc c t Y hY) rfl .rfl fun _ => .rfl

theorem keeps_in {Inv : InvT F} (h0 : ∀ c f11 f12 f13 f14, Inv c 0 f11 f12 f13 f14) (c : Dev nD) :
    (Pipeline.ΦA spec0 c : sProp 𝕄) ⊢ Keeps Inv c 0 := by
  unfold Pipeline.ΦA Keeps
  rw [scopedRest0_eq]
  simp only [View.set_whole, Memref.view_whole]
  iintro ⟨⟨⟨%f11, H11⟩, ⟨%f12, H12⟩, ⟨%f13, H13⟩, ⟨%f14, H14⟩⟩, Hg⟩
  isplitr [Hg]
  · iexists f11, f12, f13, f14
    isplitr; · ipureintro; exact h0 c f11 f12 f13 f14
    isplitl [H11]; · iexact H11
    isplitl [H12]; · iexact H12
    isplitl [H13]; · iexact H13
    iexact H14
  iexact Hg

theorem keeps_out {Inv : InvT F} (c : Dev nD) (n : ℕ) :
    Keeps Inv c n ⊢ (Pipeline.ΦA spec0 c : sProp 𝕄) := by
  unfold Pipeline.ΦA Keeps
  rw [scopedRest0_eq]
  simp only [View.set_whole, Memref.view_whole]
  iintro ⟨⟨%f11, %f12, %f13, %f14, -, H11, H12, H13, H14⟩, Hg⟩
  isplitr [Hg]
  · isplitl [H11]; · iexists f11; iexact H11
    isplitl [H12]; · iexists f12; iexact H12
    isplitl [H13]; · iexists f13; iexact H13
    iexists f14; iexact H14
  iexact Hg

variable (m)

-- the launch theorem's implicit arguments are found only when unification may unfold plain definitions in a metavariable's type
set_option backward.isDefEq.respectTransparency.types false in
/-- The program runs to its end, every window's array then holding what the points may have written, every other array
    unchanged, every semaphore counter at zero. -/
theorem run_main {Inv : InvT F} {aft : AftT F} (hc : Carries m Inv aft) (h0 : ∀ c f11 f12 f13 f14, Inv c 0 f11 f12 f13 f14) :
    θ_run defs (onTc (τ := τ) (main (F := F))) (s₀ m ρ)
      (fun r => RDat.FramePost (cfgs 0) (rdat m Inv aft) (V m) r ∧ r.2.sem = fun _ => 0) :=
  RDat.θ_run_frame_track (Q' := _) cfgs (0 : Fin 1) launch0 defs₀ Variants.none (rdat m Inv aft) m ρ main
    (hbody := fun c => body_obligation hc c) (hshare := fun c => (rdat m Inv aft c).share_full fun _ => rfl)
    (howed := fun _ _ => rfl) (V := V m) (hmain := hmain m Variants.none) (hA := fun _ _ => rfl)
    (hin := fun c => keeps_in h0 c) (hout := fun c => keeps_out c _)

/-- With nothing stated of any buffer: the frame. -/
theorem carries_true : Carries m (fun _ _ _ _ _ _ => True) (fun _ _ _ _ _ => True) := by
  intro c t
  intros
  exact ⟨trivial, trivial, trivial, trivial, trivial, trivial, trivial, trivial, trivial, trivial⟩

variable {m}

/-- Every final state has the argument arrays as the launch had them. -/
theorem args_kept {Inv : InvT F} {aft : AftT F} {r : PUnit × MemSt nD τ sig (Elt F)}
    (h : RDat.FramePost (cfgs 0) (rdat m Inv aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (h.arr_in c 2 rfl).trans (V_main_arg2 m c),
    (h.arr_in c 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

end Cert.Kernel.Hand

end
-- ==== Proof.IRuns.lean ====
/-
  ONE POINT OF THE GRID. The body is run once for each of the seven ways its conditions can fall — the first column block
  (which also scales its share of the activations) or a later one; the first, a middle or the last block of the
  contraction; the very last point, which also quantises — and each run hands back every buffer with the list of stores
  it made into it, last first.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body's condition "the first block of the contraction", as the body computes it. -/
abbrev cond2 (i : grid0.Coords) : BitVec 1 :=
  Scalar.cmpi .ne (Scalar.extui (Scalar.cmpi .eq (BitVec.ofNat 32 (i 1).val) 0#32) : BitVec 32) 0#32
/-- "The first column block" and "a later column block", as the body computes them before its sums of squares. -/
abbrev cond4 (i : grid0.Coords) : BitVec 1 :=
  Scalar.cmpi .ne (Scalar.extui (Scalar.cmpi .eq (BitVec.ofNat 32 (i 0).val) 0#32) : BitVec 32) 0#32
abbrev cond5 (i : grid0.Coords) : BitVec 1 :=
  Scalar.cmpi .ne (Scalar.extui (Scalar.cmpi .sgt (BitVec.ofNat 32 (i 0).val) 0#32) : BitVec 32) 0#32

/-- Every buffer of the body, each at named contents. -/
abbrev St (c : Dev nD) (arg2 : Memref sig .tc .vmem S256x16384 .fp8e4m3) (arg3 : Memref sig .tc .vmem S256x512 .i8) (arg4 : Memref sig .tc .vmem S4096x512 .fp8e4m3) (arg5 : Memref sig .tc .vmem S128x512 .i8) (arg6 : Memref sig .tc .vmem S256x512 .bf16) (arg7 : Memref sig .tc .vmem S1x7168 .f32) (arg8 : Memref sig .tc .vmem S256x512 .bf16) (arg9 : Memref sig .tc .vmem S256x7168 .fp8e4m3) (arg10 : Memref sig .tc .vmem S256x224 .i8) (arg11 : Memref sig .tc .vmem S256x16384 .bf16) (arg12 : Memref sig .tc .vmem S256x512 .f32) (arg13 : Memref sig .tc .vmem S256x7168 .bf16) (arg14 : Memref sig .tc .vmem S256x128 .f32)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

/-- The body at first column block, first block of the contraction. -/
@[irreducible] def runA0 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : k0_cond1 i = 1#1) (h2 : cond2 i = 1#1) (h3 : ¬ k0_cond3 i = 1#1) (h4 : cond4 i = 1#1) (h5 : ¬ cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L11 : List (View.Piece (Elt F) S256x16384 .bf16)), { L12 : List (View.Piece (Elt F) S256x512 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 f8 f9 f10 (arg11.view.writes (Elt F) f11 L11) (arg12.view.writes (Elt F) f12 L12) f13 f14) } := by
  refine ⟨?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at first column block, a middle block of the contraction. -/
@[irreducible] def runA1 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : k0_cond1 i = 1#1) (h2 : ¬ cond2 i = 1#1) (h3 : ¬ k0_cond3 i = 1#1) (h4 : cond4 i = 1#1) (h5 : ¬ cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L11 : List (View.Piece (Elt F) S256x16384 .bf16)), { L12 : List (View.Piece (Elt F) S256x512 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 f8 f9 f10 (arg11.view.writes (Elt F) f11 L11) (arg12.view.writes (Elt F) f12 L12) f13 f14) } := by
  refine ⟨?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at first column block, last block of the contraction. -/
@[irreducible] def runA3 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : k0_cond1 i = 1#1) (h2 : ¬ cond2 i = 1#1) (h3 : k0_cond3 i = 1#1) (h4 : cond4 i = 1#1) (h5 : ¬ cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L8 : List (View.Piece (Elt F) S256x512 .bf16)), Σ' (L11 : List (View.Piece (Elt F) S256x16384 .bf16)), Σ' (L12 : List (View.Piece (Elt F) S256x512 .f32)), Σ' (L13 : List (View.Piece (Elt F) S256x7168 .bf16)), { L14 : List (View.Piece (Elt F) S256x128 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 (arg8.view.writes (Elt F) f8 L8) f9 f10 (arg11.view.writes (Elt F) f11 L11) (arg12.view.writes (Elt F) f12 L12) (arg13.view.writes (Elt F) f13 L13) (arg14.view.writes (Elt F) f14 L14)) } := by
  refine ⟨?_, ?_, ?_, ?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at a later column block, first block of the contraction. -/
@[irreducible] def runB0 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : cond2 i = 1#1) (h3 : ¬ k0_cond3 i = 1#1) (h4 : ¬ cond4 i = 1#1) (h5 : cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    { L12 : List (View.Piece (Elt F) S256x512 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 f8 f9 f10 f11 (arg12.view.writes (Elt F) f12 L12) f13 f14) } := by
  refine ⟨?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at a later column block, a middle block of the contraction. -/
@[irreducible] def runB1 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : ¬ cond2 i = 1#1) (h3 : ¬ k0_cond3 i = 1#1) (h4 : ¬ cond4 i = 1#1) (h5 : cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    { L12 : List (View.Piece (Elt F) S256x512 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 f8 f9 f10 f11 (arg12.view.writes (Elt F) f12 L12) f13 f14) } := by
  refine ⟨?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at a later column block, last block of the contraction. -/
@[irreducible] def runB3 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : ¬ cond2 i = 1#1) (h3 : k0_cond3 i = 1#1) (h4 : ¬ cond4 i = 1#1) (h5 : cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L8 : List (View.Piece (Elt F) S256x512 .bf16)), Σ' (L12 : List (View.Piece (Elt F) S256x512 .f32)), Σ' (L13 : List (View.Piece (Elt F) S256x7168 .bf16)), { L14 : List (View.Piece (Elt F) S256x128 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 (arg8.view.writes (Elt F) f8 L8) f9 f10 f11 (arg12.view.writes (Elt F) f12 L12) (arg13.view.writes (Elt F) f13 L13) (arg14.view.writes (Elt F) f14 L14)) } := by
  refine ⟨?_, ?_, ?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

/-- The body at the last point. -/
@[irreducible] def runB4 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : ¬ cond2 i = 1#1) (h3 : k0_cond3 i = 1#1) (h4 : ¬ cond4 i = 1#1) (h5 : cond5 i = 1#1) (h6 : k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L8 : List (View.Piece (Elt F) S256x512 .bf16)), Σ' (L9 : List (View.Piece (Elt F) S256x7168 .fp8e4m3)), Σ' (L10 : List (View.Piece (Elt F) S256x224 .i8)), Σ' (L12 : List (View.Piece (Elt F) S256x512 .f32)), Σ' (L13 : List (View.Piece (Elt F) S256x7168 .bf16)), { L14 : List (View.Piece (Elt F) S256x128 .f32) // ∀ (E : Set ℕ),
      St (F := F) c arg2 arg3 arg4 arg5 arg6 arg7 arg8 arg9 arg10 arg11 arg12 arg13 arg14 f2 f3 f4 f5 f6 f7 f8 f9 f10 f11 f12 f13 f14
      ⊢ wp frame (wpE (defs₀ (F := F)) 𝒱 (c : Thread nD τ) bd) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => St (F := F) c arg2 arg3 arg4 arg5 arg6 arg7 arg8 arg9 arg10 arg11 arg12 arg13 arg14 f2 f3 f4 f5 f6 f7 (arg8.view.writes (Elt F) arg8.view.junk L8) (arg9.view.writes (Elt F) f9 L9) (arg10.view.writes (Elt F) f10 L10) f11 (arg12.view.writes (Elt F) arg12.view.junk L12) (arg13.view.writes (Elt F) f13 L13) (arg14.view.writes (Elt F) arg14.view.junk L14)) } := by
  refine ⟨?_, ?_, ?_, ?_, ?_, ?_, fun E => ?run⟩
  case run =>
    simp only [cc0_out_proj_norm_quant_eq_skeleton]
    unfold cc0_out_proj_norm_quant_skel
    iintro ⟨H2, H3, H4, H5, H6, H7, H8, H9, H10, H11, H12, H13, H14⟩
    sl_exec
    sl_step
    sl_close

end Cert.KernelIdeal.Hand

end
-- ==== Proof.IBody.lean ====
/-
  THE BODY AT A POINT OF THE GRID. Point `t` is column block `t / 4` and contraction block `t % 4`; which of the body's
  conditions hold there is decided over the grid's 56 points, and the run of that case (IRuns.lean) applies. `Outcome` says
  which contents the run leaves: the seven cases, each with its list of stores.
-/
module

public import proofs.«01_k».proof.Proof.IRuns
public import Idealize.ShloMosaic.Lib.Pipeline.Frame
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- What the body leaves in the buffers it writes, from the contents `f` it found. -/
inductive Outcome (c : Dev nD) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    BufTy.Contents (Elt F) arg8.view.ty → BufTy.Contents (Elt F) arg9.view.ty → BufTy.Contents (Elt F) arg10.view.ty → BufTy.Contents (Elt F) arg11.view.ty → BufTy.Contents (Elt F) arg12.view.ty → BufTy.Contents (Elt F) arg13.view.ty → BufTy.Contents (Elt F) arg14.view.ty → Prop
  | A0 (h1 : k0_cond1 i = 1#1) (h2 : cond2 i = 1#1) (h3 : ¬ k0_cond3 i = 1#1) (h4 : cond4 i = 1#1) (h5 : ¬ cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        f8
        f9
        f10
        (arg11.view.writes (Elt F) f11 (runA0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        (arg12.view.writes (Elt F) f12 (runA0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        f13
        f14
  | A1 (h1 : k0_cond1 i = 1#1) (h2 : ¬ cond2 i = 1#1) (h3 : ¬ k0_cond3 i = 1#1) (h4 : cond4 i = 1#1) (h5 : ¬ cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        f8
        f9
        f10
        (arg11.view.writes (Elt F) f11 (runA1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        (arg12.view.writes (Elt F) f12 (runA1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        f13
        f14
  | A3 (h1 : k0_cond1 i = 1#1) (h2 : ¬ cond2 i = 1#1) (h3 : k0_cond3 i = 1#1) (h4 : cond4 i = 1#1) (h5 : ¬ cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        (arg8.view.writes (Elt F) f8 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        f9
        f10
        (arg11.view.writes (Elt F) f11 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        (arg12.view.writes (Elt F) f12 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.1)
        (arg13.view.writes (Elt F) f13 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.1)
        (arg14.view.writes (Elt F) f14 (runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.1)
  | B0 (h1 : ¬ k0_cond1 i = 1#1) (h2 : cond2 i = 1#1) (h3 : ¬ k0_cond3 i = 1#1) (h4 : ¬ cond4 i = 1#1) (h5 : cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        f8
        f9
        f10
        f11
        (arg12.view.writes (Elt F) f12 (runB0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        f13
        f14
  | B1 (h1 : ¬ k0_cond1 i = 1#1) (h2 : ¬ cond2 i = 1#1) (h3 : ¬ k0_cond3 i = 1#1) (h4 : ¬ cond4 i = 1#1) (h5 : cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        f8
        f9
        f10
        f11
        (arg12.view.writes (Elt F) f12 (runB1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        f13
        f14
  | B3 (h1 : ¬ k0_cond1 i = 1#1) (h2 : ¬ cond2 i = 1#1) (h3 : k0_cond3 i = 1#1) (h4 : ¬ cond4 i = 1#1) (h5 : cond5 i = 1#1) (h6 : ¬ k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        (arg8.view.writes (Elt F) f8 (runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        f9
        f10
        f11
        (arg12.view.writes (Elt F) f12 (runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        (arg13.view.writes (Elt F) f13 (runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.1)
        (arg14.view.writes (Elt F) f14 (runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.1)
  | B4 (h1 : ¬ k0_cond1 i = 1#1) (h2 : ¬ cond2 i = 1#1) (h3 : k0_cond3 i = 1#1) (h4 : ¬ cond4 i = 1#1) (h5 : cond5 i = 1#1) (h6 : k0_cond6 i = 1#1) :
      Outcome c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14
        (arg8.view.writes (Elt F) arg8.view.junk (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1)
        (arg9.view.writes (Elt F) f9 (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1)
        (arg10.view.writes (Elt F) f10 (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.1)
        f11
        (arg12.view.writes (Elt F) arg12.view.junk (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.1)
        (arg13.view.writes (Elt F) f13 (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.1)
        (arg14.view.writes (Elt F) arg14.view.junk (runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2.1)

/-- Which conditions hold at a point. -/
theorem pt_cond1 : ∀ t : Fin grid0.N, k0_cond1 (grid0.coords t) = 1#1 ↔ t.val < 4 := by decide +kernel
theorem pt_cond2 : ∀ t : Fin grid0.N, cond2 (grid0.coords t) = 1#1 ↔ t.val % 4 = 0 := by decide +kernel
theorem pt_cond3 : ∀ t : Fin grid0.N, k0_cond3 (grid0.coords t) = 1#1 ↔ t.val % 4 = 3 := by decide +kernel
theorem pt_cond4 : ∀ t : Fin grid0.N, cond4 (grid0.coords t) = 1#1 ↔ t.val < 4 := by decide +kernel
theorem pt_cond5 : ∀ t : Fin grid0.N, cond5 (grid0.coords t) = 1#1 ↔ ¬ t.val < 4 := by decide +kernel
theorem pt_cond6 : ∀ t : Fin grid0.N, k0_cond6 (grid0.coords t) = 1#1 ↔ t.val = 55 := by decide +kernel

/-- The body's conditions at one point, as its cases need them. -/
structure Conds (i : grid0.Coords) : Prop where
  c4 : cond4 i = 1#1 ↔ k0_cond1 i = 1#1
  c5 : cond5 i = 1#1 ↔ ¬ k0_cond1 i = 1#1
  c23 : cond2 i = 1#1 → ¬ k0_cond3 i = 1#1
  c63 : k0_cond6 i = 1#1 → k0_cond3 i = 1#1
  c61 : k0_cond6 i = 1#1 → ¬ k0_cond1 i = 1#1

theorem conds (t : Fin grid0.N) : Conds (grid0.coords t) := by
  have h1 := pt_cond1 t; have h2 := pt_cond2 t; have h3 := pt_cond3 t
  have h4 := pt_cond4 t; have h5 := pt_cond5 t; have h6 := pt_cond6 t
  constructor <;> simp only [h1, h2, h3, h4, h5, h6] <;> omega

/-- The body at a point, from any contents, ends in one of the outcomes. -/
theorem body_outcome (c : Dev nD) (i : grid0.Coords) (hi : Conds i) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (E : Set ℕ) :
    St (F := F) c arg2 arg3 arg4 arg5 arg6 arg7 arg8 arg9 arg10 arg11 arg12 arg13 arg14 f2 f3 f4 f5 f6 f7 f8 f9 f10 f11 f12 f13 f14
      ⊢ wp frame (wpE (defs₀ (F := F)) Variants.none (c : Thread nD τ) none) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14)
          (fun _ => iprop(∃ g8 g9 g10 g11 g12 g13 g14, ⌜Outcome (F := F) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14⌝
            ∗ St (F := F) c arg2 arg3 arg4 arg5 arg6 arg7 arg8 arg9 arg10 arg11 arg12 arg13 arg14 f2 f3 f4 f5 f6 f7 g8 g9 g10 g11 g12 g13 g14)) := by
  have fin : ∀ g8 g9 g10 g11 g12 g13 g14, Outcome (F := F) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14 →
      St (F := F) c arg2 arg3 arg4 arg5 arg6 arg7 arg8 arg9 arg10 arg11 arg12 arg13 arg14 f2 f3 f4 f5 f6 f7 g8 g9 g10 g11 g12 g13 g14
        ⊢ iprop(∃ g8 g9 g10 g11 g12 g13 g14, ⌜Outcome (F := F) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14⌝
            ∗ St (F := F) c arg2 arg3 arg4 arg5 arg6 arg7 arg8 arg9 arg10 arg11 arg12 arg13 arg14 f2 f3 f4 f5 f6 f7 g8 g9 g10 g11 g12 g13 g14) := by
    intro g8 g9 g10 g11 g12 g13 g14 ho
    iintro H
    iexists g8, g9, g10, g11, g12, g13, g14
    isplitr
    · ipureintro; exact ho
    iexact H
  obtain ⟨c4, c5, c23, c63, c61⟩ := hi
  by_cases h1 : k0_cond1 i = 1#1
  · have h4 := c4.mpr h1
    have h5 : ¬ cond5 i = 1#1 := fun h => c5.mp h h1
    have h6 : ¬ k0_cond6 i = 1#1 := fun h => c61 h h1
    by_cases h3 : k0_cond3 i = 1#1
    · have h2 : ¬ cond2 i = 1#1 := fun h => c23 h h3
      exact ((runA3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2 E).trans
        ((wp _ _ _ _).mono fun _ => fin _ _ _ _ _ _ _ (.A3 h1 h2 h3 h4 h5 h6))
    · by_cases h2 : cond2 i = 1#1
      · exact ((runA0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2 E).trans
          ((wp _ _ _ _).mono fun _ => fin _ _ _ _ _ _ _ (.A0 h1 h2 h3 h4 h5 h6))
      · exact ((runA1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2 E).trans
          ((wp _ _ _ _).mono fun _ => fin _ _ _ _ _ _ _ (.A1 h1 h2 h3 h4 h5 h6))
  · have h4 : ¬ cond4 i = 1#1 := fun h => h1 (c4.mp h)
    have h5 := c5.mpr h1
    by_cases h3 : k0_cond3 i = 1#1
    · have h2 : ¬ cond2 i = 1#1 := fun h => c23 h h3
      by_cases h6 : k0_cond6 i = 1#1
      · exact ((runB4 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2.2 E).trans
          ((wp _ _ _ _).mono fun _ => fin _ _ _ _ _ _ _ (.B4 h1 h2 h3 h4 h5 h6))
      · exact ((runB3 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2 E).trans
          ((wp _ _ _ _).mono fun _ => fin _ _ _ _ _ _ _ (.B3 h1 h2 h3 h4 h5 h6))
    · have h6 : ¬ k0_cond6 i = 1#1 := fun h => h3 (c63 h)
      by_cases h2 : cond2 i = 1#1
      · exact ((runB0 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2 E).trans
          ((wp _ _ _ _).mono fun _ => fin _ _ _ _ _ _ _ (.B0 h1 h2 h3 h4 h5 h6))
      · exact ((runB1 (F := F) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2 E).trans
          ((wp _ _ _ _).mono fun _ => fin _ _ _ _ _ _ _ (.B1 h1 h2 h3 h4 h5 h6))

/-- The same for any continuation of the outcomes. -/
theorem body_run (c : Dev nD) (i : grid0.Coords) (hi : Conds i) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (E : Set ℕ) (K : PUnit → sProp 𝕄) :
    iprop(St (F := F) c arg2 arg3 arg4 arg5 arg6 arg7 arg8 arg9 arg10 arg11 arg12 arg13 arg14 f2 f3 f4 f5 f6 f7 f8 f9 f10 f11 f12 f13 f14 ∗ ∀ a, (∃ g8 g9 g10 g11 g12 g13 g14, ⌜Outcome (F := F) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14⌝
            ∗ St (F := F) c arg2 arg3 arg4 arg5 arg6 arg7 arg8 arg9 arg10 arg11 arg12 arg13 arg14 f2 f3 f4 f5 f6 f7 g8 g9 g10 g11 g12 g13 g14) -∗ K a)
      ⊢ wp frame (wpE (defs₀ (F := F)) Variants.none (c : Thread nD τ) none) E (cc0_out_proj_norm_quant (F := F) i arg2 harg2 arg3 harg3 arg4 harg4 arg5 harg5 arg6 harg6 arg7 harg7 arg8 harg8 arg9 harg9 arg10 harg10 arg11 harg11 arg12 harg12 arg13 harg13 arg14 harg14) K :=
  (sep_mono (body_outcome (F := F) c i hi arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 E) .rfl).trans (wp_wand_r _ _ _)

end Cert.KernelIdeal.Hand

end
-- ==== Proof.ILaunch.lean ====
/-
  THE WHOLE GRID, RUN. The body is handed its buffers by the pipeline knowing what each may hold, and keeps four buffers of
  its own from point to point: the scaled activations, the accumulator, the residual sums and the lane sums of squares. The
  pipeline is run once here for ANY statement `Inv` about those four and any relation `aft` of what is left in a window,
  given that one point carries them on (`Carries`): with nothing stated this is the frame, with the kernel's arithmetic
  stated it is the value.
-/
module

public import proofs.«01_k».proof.Proof.IBody
public import Idealize.ShloMosaic.Lib.Pipeline.ArrRel

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat Dat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is stated, before point `n`, of the four buffers the body keeps. -/
abbrev InvT (F : FTy → Type) := Dev nD → ℕ → (S256x16384.Idx → Elt F .bf16) → (S256x512.Idx → Elt F .f32)
  → (S256x7168.Idx → Elt F .bf16) → (S256x128.Idx → Elt F .f32) → Prop
/-- What is stated of each window's buffer after a point. -/
abbrev AftT (F : FTy → Type) := Dev nD → (w : Fin cfg0.W) → Fin cfg0.N → (Y X : (cfg0.win w).block.Idx → Elt F (cfg0.win w).elt) → Prop

/-- The four kept buffers at contents of which `Inv` holds, and the generator register. -/
def Keeps (Inv : InvT F) (c : Dev nD) (n : ℕ) : sProp 𝕄 :=
  iprop((∃ f11 f12 f13 f14, ⌜Inv c n f11 f12 f13 f14⌝
    ∗ ((Memref.whole cc0_scratch0).view.loc (c : Thread nD τ) ↦[(Memref.whole cc0_scratch0).view.set]{fullShare} f11) ∗ ((Memref.whole cc0_scratch1).view.loc (c : Thread nD τ) ↦[(Memref.whole cc0_scratch1).view.set]{fullShare} f12) ∗ ((Memref.whole cc0_scratch2).view.loc (c : Thread nD τ) ↦[(Memref.whole cc0_scratch2).view.set]{fullShare} f13) ∗ ((Memref.whole cc0_scratch3).view.loc (c : Thread nD τ) ↦[(Memref.whole cc0_scratch3).view.set]{fullShare} f14))
    ∗ ∃ r, prngReg c r)

/-- The proof data. -/
def rdat (Inv : InvT F) (aft : AftT F) (c : Dev nD) : RDat τ (Elt F) Unit ℕ (UR sig nD τ) ℕ cfg0 c where
  A w := V m c (Pipeline.arrRef spec0 w)
  after w t := aft c w t
  Φ t := Keeps Inv c t.val
  q _ := fullShare
  owed _ := 0

/-- One point carries the statements on. -/
def Carries (Inv : InvT F) (aft : AftT F) : Prop :=
  ∀ (c : Dev nD) (t : Fin cfg0.N) (f2 : BufTy.Contents (Elt F) (win0_0.stage (cfg0.slots t 0)).view.ty) (f3 : BufTy.Contents (Elt F) (win0_1.stage (cfg0.slots t 1)).view.ty) (f4 : BufTy.Contents (Elt F) (win0_2.stage (cfg0.slots t 2)).view.ty) (f5 : BufTy.Contents (Elt F) (win0_3.stage (cfg0.slots t 3)).view.ty) (f6 : BufTy.Contents (Elt F) (win0_4.stage (cfg0.slots t 4)).view.ty) (f7 : BufTy.Contents (Elt F) (win0_5.stage (cfg0.slots t 5)).view.ty) (f8 : BufTy.Contents (Elt F) (win0_6.stage (cfg0.slots t 6)).view.ty) (f9 : BufTy.Contents (Elt F) (win0_7.stage (cfg0.slots t 7)).view.ty) (f10 : BufTy.Contents (Elt F) (win0_8.stage (cfg0.slots t 8)).view.ty) (f11 : BufTy.Contents (Elt F) (Memref.whole cc0_scratch0).view.ty) (f12 : BufTy.Contents (Elt F) (Memref.whole cc0_scratch1).view.ty) (f13 : BufTy.Contents (Elt F) (Memref.whole cc0_scratch2).view.ty) (f14 : BufTy.Contents (Elt F) (Memref.whole cc0_scratch3).view.ty)
    (g8 : BufTy.Contents (Elt F) (win0_6.stage (cfg0.slots t 6)).view.ty) (g9 : BufTy.Contents (Elt F) (win0_7.stage (cfg0.slots t 7)).view.ty) (g10 : BufTy.Contents (Elt F) (win0_8.stage (cfg0.slots t 8)).view.ty) (g11 : BufTy.Contents (Elt F) (Memref.whole cc0_scratch0).view.ty) (g12 : BufTy.Contents (Elt F) (Memref.whole cc0_scratch1).view.ty) (g13 : BufTy.Contents (Elt F) (Memref.whole cc0_scratch2).view.ty) (g14 : BufTy.Contents (Elt F) (Memref.whole cc0_scratch3).view.ty),
    (rdat m Inv aft c).Finds 0 t ((win0_0.stage (cfg0.slots t 0)).view.read (Elt F) f2) → (rdat m Inv aft c).Finds 1 t ((win0_1.stage (cfg0.slots t 1)).view.read (Elt F) f3) → (rdat m Inv aft c).Finds 2 t ((win0_2.stage (cfg0.slots t 2)).view.read (Elt F) f4) → (rdat m Inv aft c).Finds 3 t ((win0_3.stage (cfg0.slots t 3)).view.read (Elt F) f5) → (rdat m Inv aft c).Finds 4 t ((win0_4.stage (cfg0.slots t 4)).view.read (Elt F) f6) → (rdat m Inv aft c).Finds 5 t ((win0_5.stage (cfg0.slots t 5)).view.read (Elt F) f7) → (rdat m Inv aft c).Finds 6 t ((win0_6.stage (cfg0.slots t 6)).view.read (Elt F) f8) → (rdat m Inv aft c).Finds 7 t ((win0_7.stage (cfg0.slots t 7)).view.read (Elt F) f9) → (rdat m Inv aft c).Finds 8 t ((win0_8.stage (cfg0.slots t 8)).view.read (Elt F) f10)
    → Inv c t.val f11 f12 f13 f14
    → Outcome (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) f2 f3 f4 f5 f6 f7 f8 f9 f10 f11 f12 f13 f14 g8 g9 g10 g11 g12 g13 g14
    → Inv c (t.val + 1) g11 g12 g13 g14
      ∧ aft c 0 t ((win0_0.stage (cfg0.slots t 0)).view.read (Elt F) f2) ((win0_0.stage (cfg0.slots t 0)).view.read (Elt F) f2) ∧ aft c 1 t ((win0_1.stage (cfg0.slots t 1)).view.read (Elt F) f3) ((win0_1.stage (cfg0.slots t 1)).view.read (Elt F) f3) ∧ aft c 2 t ((win0_2.stage (cfg0.slots t 2)).view.read (Elt F) f4) ((win0_2.stage (cfg0.slots t 2)).view.read (Elt F) f4) ∧ aft c 3 t ((win0_3.stage (cfg0.slots t 3)).view.read (Elt F) f5) ((win0_3.stage (cfg0.slots t 3)).view.read (Elt F) f5) ∧ aft c 4 t ((win0_4.stage (cfg0.slots t 4)).view.read (Elt F) f6) ((win0_4.stage (cfg0.slots t 4)).view.read (Elt F) f6) ∧ aft c 5 t ((win0_5.stage (cfg0.slots t 5)).view.read (Elt F) f7) ((win0_5.stage (cfg0.slots t 5)).view.read (Elt F) f7) ∧ aft c 6 t ((win0_6.stage (cfg0.slots t 6)).view.read (Elt F) f8) ((win0_6.stage (cfg0.slots t 6)).view.read (Elt F) g8) ∧ aft c 7 t ((win0_7.stage (cfg0.slots t 7)).view.read (Elt F) f9) ((win0_7.stage (cfg0.slots t 7)).view.read (Elt F) g9) ∧ aft c 8 t ((win0_8.stage (cfg0.slots t 8)).view.read (Elt F) f10) ((win0_8.stage (cfg0.slots t 8)).view.read (Elt F) g10)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

variable {m}

/-- A buffer at contents of which `P` holds is given back as the pipeline takes it. -/
theorem give_back (c : Dev nD) {sp : Space} {sh : Shape} {e : EltTy} (M : Memref sig .tc sp sh e) (P : (sh.Idx → Elt F e) → Prop)
    (g : M.view.ty.Contents (Elt F)) (h : P (M.view.read (Elt F) g)) :
    (M.view.loc (c : Thread nD τ) ↦[M.view.set]{fullShare} g : sProp 𝕄)
      ⊢ iprop(∃ X, ⌜P X⌝ ∗ ∃ f, ⌜M.view.read (Elt F) f = X⌝ ∗ (M.view.loc (c : Thread nD τ) ↦[M.view.set]{fullShare} f)) := by
  iintro H
  iexists (M.view.read (Elt F) g)
  isplitr
  · ipureintro; exact h
  iexists g
  isplitr
  · ipureintro; rfl
  iexact H

theorem sound_body {Inv : InvT F} {aft : AftT F} (hc : Carries m Inv aft) (c : Dev nD) (t : Fin cfg0.N)
    (Y : (w : Fin cfg0.W) → (cfg0.win w).block.Idx → Elt F (cfg0.win w).elt) (hY : ∀ w, (rdat m Inv aft c).Finds w t (Y w)) :
    iprop(Keeps Inv c t.val ∗ (rdat m Inv aft c).owesAt () t.castSucc
      ∗ owns (c : Thread nD τ) (win0_0.stage (cfg0.slots t 0)) fullShare (Y 0) ∗ owns (c : Thread nD τ) (win0_1.stage (cfg0.slots t 1)) fullShare (Y 1) ∗ owns (c : Thread nD τ) (win0_2.stage (cfg0.slots t 2)) fullShare (Y 2) ∗ owns (c : Thread nD τ) (win0_3.stage (cfg0.slots t 3)) fullShare (Y 3) ∗ owns (c : Thread nD τ) (win0_4.stage (cfg0.slots t 4)) fullShare (Y 4) ∗ owns (c : Thread nD τ) (win0_5.stage (cfg0.slots t 5)) fullShare (Y 5) ∗ owns (c : Thread nD τ) (win0_6.stage (cfg0.slots t 6)) fullShare (Y 6) ∗ owns (c : Thread nD τ) (win0_7.stage (cfg0.slots t 7)) fullShare (Y 7) ∗ owns (c : Thread nD τ) (win0_8.stage (cfg0.slots t 8)) fullShare (Y 8))
    ⊢ wp frame (wpE (defs₀ (F := F)) Variants.none c none) Set.univ (bodyAt0 t)
      (fun _ => iprop(Keeps Inv c (t.val + 1) ∗ (rdat m Inv aft c).owesAt () t.succ
        ∗ (∃ X, ⌜aft c 0 t (Y 0) X⌝ ∗ owns (c : Thread nD τ) (win0_0.stage (cfg0.slots t 0)) fullShare X) ∗ (∃ X, ⌜aft c 1 t (Y 1) X⌝ ∗ owns (c : Thread nD τ) (win0_1.stage (cfg0.slots t 1)) fullShare X) ∗ (∃ X, ⌜aft c 2 t (Y 2) X⌝ ∗ owns (c : Thread nD τ) (win0_2.stage (cfg0.slots t 2)) fullShare X) ∗ (∃ X, ⌜aft c 3 t (Y 3) X⌝ ∗ owns (c : Thread nD τ) (win0_3.stage (cfg0.slots t 3)) fullShare X) ∗ (∃ X, ⌜aft c 4 t (Y 4) X⌝ ∗ owns (c : Thread nD τ) (win0_4.stage (cfg0.slots t 4)) fullShare X) ∗ (∃ X, ⌜aft c 5 t (Y 5) X⌝ ∗ owns (c : Thread nD τ) (win0_5.stage (cfg0.slots t 5)) fullShare X) ∗ (∃ X, ⌜aft c 6 t (Y 6) X⌝ ∗ owns (c : Thread nD τ) (win0_6.stage (cfg0.slots t 6)) fullShare X) ∗ (∃ X, ⌜aft c 7 t (Y 7) X⌝ ∗ owns (c : Thread nD τ) (win0_7.stage (cfg0.slots t 7)) fullShare X) ∗ (∃ X, ⌜aft c 8 t (Y 8) X⌝ ∗ owns (c : Thread nD τ) (win0_8.stage (cfg0.slots t 8)) fullShare X))) := by
  rw [show (rdat m Inv aft c).owesAt () t.succ = (rdat m Inv aft c).owesAt () t.castSucc from rfl]
  unfold Keeps owns
  iintro ⟨⟨⟨%f11, %f12, %f13, %f14, %hI, H11, H12, H13, H14⟩, Hg⟩, HO, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩⟩
  iapply (body_run (F := F) c (grid0.coords t) (conds t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) f2 f3 f4 f5 f6 f7 f8 f9 f10 f11 f12 f13 f14 Set.univ _)
  isplitl [H2 H3 H4 H5 H6 H7 H8 H9 H10 H11 H12 H13 H14]
  · unfold St
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  iintro %a ⟨%g8, %g9, %g10, %g11, %g12, %g13, %g14, %ho, Hs⟩
  unfold St
  icases Hs with ⟨H2, H3, H4, H5, H6, H7, H8, H9, H10, H11, H12, H13, H14⟩
  obtain ⟨hI', a0, a1, a2, a3, a4, a5, a6, a7, a8⟩ := hc c t f2 f3 f4 f5 f6 f7 f8 f9 f10 f11 f12 f13 f14 g8 g9 g10 g11 g12 g13 g14 (r2 ▸ hY 0) (r3 ▸ hY 1) (r4 ▸ hY 2) (r5 ▸ hY 3) (r6 ▸ hY 4) (r7 ▸ hY 5) (r8 ▸ hY 6) (r9 ▸ hY 7) (r10 ▸ hY 8) hI ho
  isplitl [H11 H12 H13 H14 Hg]
  · isplitr [Hg]
    · iexists g11, g12, g13, g14
      isplitr; · ipureintro; exact hI'
      isplitl [H11]; · iexact H11
      isplitl [H12]; · iexact H12
      isplitl [H13]; · iexact H13
      iexact H14
    iexact Hg
  isplitl [HO]; · iexact HO
  isplitl [H2]; · iapply (give_back (F := F) c (win0_0.stage (cfg0.slots t 0)) (aft c 0 t (Y 0)) f2 (r2 ▸ a0)); iexact H2
  isplitl [H3]; · iapply (give_back (F := F) c (win0_1.stage (cfg0.slots t 1)) (aft c 1 t (Y 1)) f3 (r3 ▸ a1)); iexact H3
  isplitl [H4]; · iapply (give_back (F := F) c (win0_2.stage (cfg0.slots t 2)) (aft c 2 t (Y 2)) f4 (r4 ▸ a2)); iexact H4
  isplitl [H5]; · iapply (give_back (F := F) c (win0_3.stage (cfg0.slots t 3)) (aft c 3 t (Y 3)) f5 (r5 ▸ a3)); iexact H5
  isplitl [H6]; · iapply (give_back (F := F) c (win0_4.stage (cfg0.slots t 4)) (aft c 4 t (Y 4)) f6 (r6 ▸ a4)); iexact H6
  isplitl [H7]; · iapply (give_back (F := F) c (win0_5.stage (cfg0.slots t 5)) (aft c 5 t (Y 5)) f7 (r7 ▸ a5)); iexact H7
  isplitl [H8]; · iapply (give_back (F := F) c (win0_6.stage (cfg0.slots t 6)) (aft c 6 t (Y 6)) g8 (r8 ▸ a6)); iexact H8
  isplitl [H9]; · iapply (give_back (F := F) c (win0_7.stage (cfg0.slots t 7)) (aft c 7 t (Y 7)) g9 (r9 ▸ a7)); iexact H9
  iapply (give_back (F := F) c (win0_8.stage (cfg0.slots t 8)) (aft c 8 t (Y 8)) g10 (r10 ▸ a8)); iexact H10

theorem body_obligation {Inv : InvT F} {aft : AftT F} (hc : Carries m Inv aft) (c : Dev nD) :
    (rdat m Inv aft c).BodyObligation (defs₀ (F := F)) Variants.none () Set.univ := fun t Y hY => by
  rw [bigSep_W0, bigSep_W0, defs₀_row]
  exact triple_restated (sound_body hc c t Y hY) rfl .rfl fun _ => .rfl

theorem keeps_in {Inv : InvT F} (h0 : ∀ c f11 f12 f13 f14, Inv c 0 f11 f12 f13 f14) (c : Dev nD) :
    (Pipeline.ΦA spec0 c : sProp 𝕄) ⊢ Keeps Inv c 0 := by
  unfold Pipeline.ΦA Keeps
  rw [scopedRest0_eq]
  simp only [View.set_whole, Memref.view_whole]
  iintro ⟨⟨⟨%f11, H11⟩, ⟨%f12, H12⟩, ⟨%f13, H13⟩, ⟨%f14, H14⟩⟩, Hg⟩
  isplitr [Hg]
  · iexists f11, f12, f13, f14
    isplitr; · ipureintro; exact h0 c f11 f12 f13 f14
    isplitl [H11]; · iexact H11
    isplitl [H12]; · iexact H12
    isplitl [H13]; · iexact H13
    iexact H14
  iexact Hg

theorem keeps_out {Inv : InvT F} (c : Dev nD) (n : ℕ) :
    Keeps Inv c n ⊢ (Pipeline.ΦA spec0 c : sProp 𝕄) := by
  unfold Pipeline.ΦA Keeps
  rw [scopedRest0_eq]
  simp only [View.set_whole, Memref.view_whole]
  iintro ⟨⟨%f11, %f12, %f13, %f14, -, H11, H12, H13, H14⟩, Hg⟩
  isplitr [Hg]
  · isplitl [H11]; · iexists f11; iexact H11
    isplitl [H12]; · iexists f12; iexact H12
    isplitl [H13]; · iexists f13; iexact H13
    iexists f14; iexact H14
  iexact Hg

variable (m)

-- the launch theorem's implicit arguments are found only when unification may unfold plain definitions in a metavariable's type
set_option backward.isDefEq.respectTransparency.types false in
/-- The program runs to its end, every window's array then holding what the points may have written, every other array
    unchanged, every semaphore counter at zero. -/
theorem run_main {Inv : InvT F} {aft : AftT F} (hc : Carries m Inv aft) (h0 : ∀ c f11 f12 f13 f14, Inv c 0 f11 f12 f13 f14) :
    θ_run defs (onTc (τ := τ) (main (F := F))) (s₀ m ρ)
      (fun r => RDat.FramePost (cfgs 0) (rdat m Inv aft) (V m) r ∧ r.2.sem = fun _ => 0) :=
  RDat.θ_run_frame_track (Q' := _) cfgs (0 : Fin 1) launch0 defs₀ Variants.none (rdat m Inv aft) m ρ main
    (hbody := fun c => body_obligation hc c) (hshare := fun c => (rdat m Inv aft c).share_full fun _ => rfl)
    (howed := fun _ _ => rfl) (V := V m) (hmain := hmain m Variants.none) (hA := fun _ _ => rfl)
    (hin := fun c => keeps_in h0 c) (hout := fun c => keeps_out c _)

/-- With nothing stated of any buffer: the frame. -/
theorem carries_true : Carries m (fun _ _ _ _ _ _ => True) (fun _ _ _ _ _ => True) := by
  intro c t
  intros
  exact ⟨trivial, trivial, trivial, trivial, trivial, trivial, trivial, trivial, trivial, trivial⟩

variable {m}

/-- Every final state has the argument arrays as the launch had them. -/
theorem args_kept {Inv : InvT F} {aft : AftT F} {r : PUnit × MemSt nD τ sig (Elt F)}
    (h : RDat.FramePost (cfgs 0) (rdat m Inv aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (h.arr_in c 2 rfl).trans (V_main_arg2 m c),
    (h.arr_in c 3 rfl).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

end Cert.KernelIdeal.Hand

end
-- ==== Proof.Frames.lean ====
/-
  THE FRAMES AND THE IDEALIZATION. The kernel, at bits and at the reals, runs to its end from any launch, leaves its arguments as
  they were and every semaphore counter at zero (the grid's run with nothing stated of any buffer); the reference's frame is
  the generated one; the one constant the ideal kernel names, 1/7168, rounds to the kernel's own.
-/
module

public import proofs.«01_k».proof.Defs
public import proofs.«01_k».proof.Proof.KLaunch
public import proofs.«01_k».proof.Proof.ILaunch
public import proofs.«01_k».proof.Proof.Gen.ReferenceIdeal.Frame
public import proofs.«01_k».proof.Proof.Gen.Pre_in_range

@[expose] public section

noncomputable section

namespace Cert.Proof

open Idealize.ShloMosaic Idealize.SL.Sem

theorem frame_p : Cert.quiescent_Kernel := fun m ρ _ =>
  (θ_run _ _ _).mono (fun _ h => ⟨fun c => Cert.Kernel.Hand.args_kept h.1 c, h.2⟩)
    (Cert.Kernel.Hand.run_main m ρ (Cert.Kernel.Hand.carries_true m) (fun _ _ _ _ _ => trivial))

theorem frame_pi : Cert.quiescent_KernelIdeal := fun m ρ _ =>
  (θ_run _ _ _).mono (fun _ h => ⟨fun c => Cert.KernelIdeal.Hand.args_kept h.1 c, h.2⟩)
    (Cert.KernelIdeal.Hand.run_main m ρ (Cert.KernelIdeal.Hand.carries_true m) (fun _ _ _ _ _ => trivial))

theorem frame_ri : Cert.quiescent_ReferenceIdeal := fun m ρ _ => Cert.ReferenceIdeal.Gen.frame m ρ

/-- The same where the precondition holds. -/
theorem frame_pi_pre : Cert.quiescent_KernelIdeal_pre_in_range := fun m ρ _ => frame_pi m ρ trivial
theorem frame_ri_pre : Cert.quiescent_ReferenceIdeal_pre_in_range := fun m ρ _ => frame_ri m ρ trivial

theorem preserves : Cert.preserves_Kernel_KernelIdeal :=
  IdealRules.named_const.statement Cert.KernelIdeal.κ "inv_n" .f32 0x39124925#32 ((1 / 7168 : ℝ) : EReal) rfl

end Cert.Proof

end
-- ==== Proof.IChunk.lean ====
/-
  ONE CHUNK OF THE ACTIVATIONS. In the first column block the body scales its share of the activations, 128 columns at a
  time: the code times the power of two that the byte of its block of 32 stands for.
-/
module

public import proofs.«01_k».proof.Proof.Gen.KernelIdeal.Skeleton
public import Idealize.ShloMosaic.Lib.Pointwise
public import Idealize.ShloMosaic.Lib.VecWindow
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- For each lane the number of its block of 32, counted from `b`, as the body computes it. -/
def blockOf (b : BitVec 32) : IVec S256x128x1 32 :=
  have v39 : IVec S256x128 32 := iota .tc S256x128 32 [1] iota_S256x128_d1_w32
  have v97 : IVec S256x128 32 := broadcast S256x128 32#32
  have v98 : IVec S256x128 32 := divsi v39 v97
  have v99 : IVec S256x128 32 := broadcast S256x128 0#32
  have v100 : IVec S256x128 1 := cmpi .sgt v39 v99
  have v101 : IVec S256x128 32 := extui 32 v100 natLt_1_32
  have v102 : IVec S256x128 32 := broadcast S256x128 0#32
  have v103 : IVec S256x128 1 := cmpi .slt v39 v102
  have v104 : IVec S256x128 32 := extui 32 v103 natLt_1_32
  have v105 : IVec S256x128 32 := subi v101 v104
  let v106 : BitVec 1 := Scalar.cmpi .sgt 32#32 0#32
  let v107 : BitVec 32 := Scalar.extui v106
  let v108 : BitVec 1 := Scalar.cmpi .slt 32#32 0#32
  let v109 : BitVec 32 := Scalar.extui v108
  let v110 : BitVec 32 := Scalar.subi v107 v109
  have v111 : IVec S256x128 32 := broadcast S256x128 v110
  have v112 : IVec S256x128 1 := cmpi .ne v105 v111
  have v113 : IVec S256x128 32 := broadcast S256x128 32#32
  have v114 : IVec S256x128 32 := remsi v39 v113
  have v115 : IVec S256x128 32 := broadcast S256x128 0#32
  have v116 : IVec S256x128 1 := cmpi .ne v114 v115
  have v117 : IVec S256x128 1 := andi v112 v116
  have v118 : IVec S256x128 32 := broadcast S256x128 1#32
  have v119 : IVec S256x128 32 := subi v98 v118
  have v120 : IVec S256x128 32 := select v117 v119 v98
  have v121 : IVec S256x128 32 := broadcast S256x128 b
  have v122 : IVec S256x128 32 := addi v121 v120
  have v123 : IVec S256x128 32 := broadcast S256x128 0#32
  have v124 : IVec S256x128 1 := cmpi .slt v122 v123
  have v125 : IVec S256x128 32 := broadcast S256x128 128#32
  have v126 : IVec S256x128 32 := addi v122 v125
  have v127 : IVec S256x128 32 := select v124 v126 v122
  have v128 : IVec S256x128x1 32 := shapeCast S256x128x1 v127 shapeCasts_S256x128_S256x128x1
  v128

/-- What the body stores for a chunk: from its 128 columns of scale bytes and its 128 columns of codes. -/
def chunkX (b : BitVec 32) (s : Vec F S256x128 .i8) (x : Vec F S256x128 .fp8e4m3) : FVec F S256x128 .bf16 :=
  k0_pay5 (k0_pay3 s) (blockOf b) x

/-- The power of two that a scale byte stands for, over the extended reals. -/
def sc (b : BitVec 8) : EReal := Ideal.ofBits .f32 (b.setWidth 32 <<< 23)

/-- The same of one lane. -/
def laneBlock (b l : BitVec 32) : BitVec 32 :=
  let d := IntOp.divsi ArithUnit.vector l 32#32
  let s := IntOp.subi (BitVec.setWidth 32 (IntOp.cmpi CmpIPredicate.sgt l 0#32)) (BitVec.setWidth 32 (IntOp.cmpi CmpIPredicate.slt l 0#32))
  let w := Scalar.subi (Scalar.extui (Scalar.cmpi CmpIPredicate.sgt 32#32 0#32)) (Scalar.extui (Scalar.cmpi CmpIPredicate.slt 32#32 0#32))
  let q := Scalar.select (IntOp.andi (IntOp.cmpi CmpIPredicate.ne s w) (IntOp.cmpi CmpIPredicate.ne (IntOp.remsi ArithUnit.vector l 32#32) 0#32))
    (IntOp.subi d 1#32) d
  Scalar.select (IntOp.cmpi CmpIPredicate.slt (IntOp.addi b q) 0#32) (IntOp.addi (IntOp.addi b q) 128#32) (IntOp.addi b q)

theorem laneBlock_eq : ∀ (c : Fin 32) (l : Fin 128),
    laneBlock (BitVec.ofNat 32 (4 * c.val)) (BitVec.ofNat 32 l.val) = BitVec.ofNat 32 (4 * c.val + l.val / 32) := by decide +kernel

theorem blockOf_apply (c : Fin 32) (r : Fin 256) (l : Fin 128) :
    blockOf (BitVec.ofNat 32 (4 * c.val)) (ix3 r l 0) = BitVec.ofNat 32 (4 * c.val + l.val / 32) := by
  pointwise [blockOf]
  exact laneBlock_eq c l

theorem chunkX_apply (c : Fin 32) (s : Vec Ideal S256x128 .i8) (x : FVec Ideal S256x128 .fp8e4m3) (r : Fin 256) (l : Fin 128) :
    chunkX (F := Ideal) (BitVec.ofNat 32 (4 * c.val)) s x (ix2 r l)
      = x (ix2 r l) * sc (s (ix2 r ⟨4 * c.val + l.val / 32, by omega⟩)) := by
  pointwise [chunkX, k0_pay5, k0_pay3]
  have e : (blockOf (BitVec.ofNat 32 (4 * c.val)) (ix3 r l 0)).toNat % 128 = 4 * c.val + l.val / 32 := by
    rw [blockOf_apply, BitVec.toNat_ofNat]; omega
  simp only [e]
  rfl

end Cert.KernelIdeal.Hand
-- ==== Proof.IPay.lean ====
/-
  THE STORED VALUES. What the body stores into the accumulator, the block of `h` and the lane sums of squares, read at an
  element, over the extended reals.
-/
module

public import proofs.«01_k».proof.Proof.IChunk
public import Idealize.ShloMosaic.Lib.Pointwise
public import Idealize.ShloMosaic.Lib.VecWindow
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

/-- The zeros that the first block of a contraction starts from. -/
theorem pay907_apply (y : S256x512.Idx) : k0_pay907 (F := Ideal) y = 0 := by
  pointwise [k0_pay907]

/-- The accumulator with one block of the contraction added. -/
theorem pay908_apply (ws : Vec Ideal S128x512 .i8) (wc : FVec Ideal S4096x512 .fp8e4m3) (x : FVec Ideal S256x4096 .bf16)
    (a : FVec Ideal S256x512 .f32) (r : Fin 256) (q : Fin 512) :
    k0_pay908 (F := Ideal) ws wc x a (ix2 r q)
      = a (ix2 r q) + ∑ k : Fin 4096, x (ix2 r k) * (wc (ix2 k q) * sc (ws (ix2 ⟨k.val / 32, by omega⟩ q))) := by
  pointwise [k0_pay908]
  rfl

/-- A block of `h`: the residual plus the finished contraction. -/
theorem pay909_apply (v : FVec Ideal S256x512 .bf16) (a : FVec Ideal S256x512 .f32) (y : S256x512.Idx) :
    k0_pay909 (F := Ideal) v a y = v y + a y := by
  pointwise [k0_pay909]

theorem pay910_apply (v : FVec Ideal S256x512 .bf16) (a : FVec Ideal S256x512 .f32) (y : S256x512.Idx) :
    k0_pay910 (F := Ideal) v a y = v y + a y := by
  pointwise [k0_pay910, k0_pay909]

/-- The squares of a block of `h`, four columns added to each lane. -/
theorem pay911_apply (v : FVec Ideal S256x512 .bf16) (a : FVec Ideal S256x512 .f32) (r : Fin 256) (l : Fin 128) :
    k0_pay911 (F := Ideal) v a (ix2 r l)
      = ∑ p : Fin 4, (v (ix2 r ⟨128 * p.val + l.val, by omega⟩) + a (ix2 r ⟨128 * p.val + l.val, by omega⟩))
          * (v (ix2 r ⟨128 * p.val + l.val, by omega⟩) + a (ix2 r ⟨128 * p.val + l.val, by omega⟩)) := by
  pointwise [k0_pay911, k0_pay909]
  simp [Fin.sum_univ_four, show ((3 : Fin 4) : ℕ) = 3 from rfl, show ((2 : Fin 4) : ℕ) = 2 from rfl]

theorem pay912_apply (v : FVec Ideal S256x512 .bf16) (a : FVec Ideal S256x512 .f32) (y : S256x128.Idx) :
    k0_pay912 (F := Ideal) v a y = k0_pay911 (F := Ideal) v a y := by
  pointwise [k0_pay912]

theorem pay913_apply (v : FVec Ideal S256x512 .bf16) (a : FVec Ideal S256x512 .f32) (s : FVec Ideal S256x128 .f32) (y : S256x128.Idx) :
    k0_pay913 (F := Ideal) v a s y = s y + k0_pay911 (F := Ideal) v a y := by
  pointwise [k0_pay913]

end Cert.KernelIdeal.Hand
-- ==== Proof.IStores.lean ====
/-
  STORES READ BACK. What a buffer holds after the body's stores into it, element by element: the chunks of the scaled
  activations, the accumulator, the block of `h` in its place and the lane sums of squares.
-/
module

public import proofs.«01_k».proof.Proof.IPay
public import Idealize.ShloMosaic.Lib.Pointwise
public import Idealize.ShloMosaic.Lib.VecWindow
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

/-- The place of an element of a box of two axes at offsets `0, o`. -/
theorem emb_cols {R C : ℕ} {n m : ℕ} {off : Fin 2 → ℕ} {o : ℕ} (ho : off = ![0, o])
    (inb : ∀ a, off a + (⟨2, ![n, m]⟩ : Shape).size a ≤ (⟨2, ![R, C]⟩ : Shape).size a) (r : Fin n) (l : Fin m) (r' : Fin R) (q : Fin C)
    (hr : r'.val = r.val) (hq : q.val = o + l.val) :
    (Rect.unit (s := ⟨2, ![R, C]⟩) off (⟨2, ![n, m]⟩ : Shape).size inb).emb (ix2 r l) = ix2 r' q := by
  subst ho
  refine Rect.emb_eq_of_coords _ _ _ fun a => ?_
  match a with
  | 0 => show r'.val = 0 + 1 * r.val; omega
  | 1 => show q.val = o + 1 * l.val; omega

/-- Membership of a box of two axes at offsets `0, o` that holds every row. -/
theorem mem_cols {R C : ℕ} {m : ℕ} {off : Fin 2 → ℕ} {o : ℕ} (ho : off = ![0, o])
    (inb : ∀ a, off a + (⟨2, ![R, m]⟩ : Shape).size a ≤ (⟨2, ![R, C]⟩ : Shape).size a) (r : Fin R) (q : Fin C) :
    ix2 r q ∈ (Rect.unit (s := ⟨2, ![R, C]⟩) off (⟨2, ![R, m]⟩ : Shape).size inb).set ↔ o ≤ q.val ∧ q.val < o + m := by
  subst ho
  rw [Rect.mem_set_unit]
  constructor
  · intro h; exact h 1
  · intro h a
    match a with
    | 0 => exact ⟨Nat.zero_le _, by show r.val < 0 + R; omega⟩
    | 1 => exact h

section chunks

variable {F : FTy → Type} [FloatOps F] [Named F]

/-- The store of chunk `c`. -/
def pieceX (i : grid0.Coords) (h1 : k0_cond1 i = 1#1) (arg2 : Memref sig .tc .vmem S256x16384 .fp8e4m3) (arg3 : Memref sig .tc .vmem S256x512 .i8)
    (f2 : BufTy.Contents (Elt F) arg2.view.ty) (f3 : BufTy.Contents (Elt F) arg3.view.ty) (c : Fin 32) : View.Piece (Elt F) S256x16384 .bf16 :=
  ⟨Rect.unit (s := S256x16384) (k0_off2 i (BitVec.ofNat 32 (128 * c.val))) S256x128.size (k0_off2_inb i h1 c),
    chunkX (BitVec.ofNat 32 (4 * c.val)) (arg3.view.readAt (Elt F) (Rect.unit (s := S256x512) (k0_off1 i) S256x128.size (k0_off1_inb i h1)).toLoadRect f3)
      (arg2.view.readAt (Elt F) (Rect.unit (s := S256x16384) (k0_off2 i (BitVec.ofNat 32 (128 * c.val))) S256x128.size (k0_off2_inb i h1 c)).toLoadRect f2)⟩

/-- The 32 stores, the last first. -/
def piecesX (i : grid0.Coords) (h1 : k0_cond1 i = 1#1) (arg2 : Memref sig .tc .vmem S256x16384 .fp8e4m3) (arg3 : Memref sig .tc .vmem S256x512 .i8)
    (f2 : BufTy.Contents (Elt F) arg2.view.ty) (f3 : BufTy.Contents (Elt F) arg3.view.ty) : List (View.Piece (Elt F) S256x16384 .bf16) :=
  [31, 30, 29, 28, 27, 26, 25, 24, 23, 22, 21, 20, 19, 18, 17, 16, 15, 14, 13, 12, 11, 10, 9, 8, 7, 6, 5, 4, 3, 2, 1, 0].map
    (pieceX i h1 arg2 arg3 f2 f3)

end chunks

theorem mem_chunks : ∀ c : Fin 32, c ∈ ([31, 30, 29, 28, 27, 26, 25, 24, 23, 22, 21, 20, 19, 18, 17, 16, 15, 14, 13, 12, 11, 10, 9, 8, 7, 6, 5, 4, 3, 2, 1, 0] : List (Fin 32)) := by
  decide

/-- After the 32 stores the columns of the body's share hold the scaled codes, -/
theorem read_piecesX (i : grid0.Coords) (h1 : k0_cond1 i = 1#1) (arg2 : Memref sig .tc .vmem S256x16384 .fp8e4m3) (arg3 : Memref sig .tc .vmem S256x512 .i8)
    (f2 : BufTy.Contents (Elt Ideal) arg2.view.ty) (f3 : BufTy.Contents (Elt Ideal) arg3.view.ty)
    (arg11 : Memref sig .tc .vmem S256x16384 .bf16) (f : BufTy.Contents (Elt Ideal) arg11.view.ty) (r : Fin 256) (q : Fin 16384)
    (hq : 4096 * (i 1).val ≤ q.val) (hq' : q.val < 4096 * (i 1).val + 4096) :
    arg11.view.read (Elt Ideal) (arg11.view.writes (Elt Ideal) f (piecesX i h1 arg2 arg3 f2 f3)) (ix2 r q)
      = (arg2.view.read (Elt Ideal) f2 : FVec Ideal S256x16384 .fp8e4m3) (ix2 r q) * sc (arg3.view.read (Elt Ideal) f3 (ix2 r ⟨q.val / 32, by omega⟩)) := by
  refine View.read_writes_apply_of_pieces arg11.view f
    (fun y => (show EReal from (arg2.view.read (Elt Ideal) f2 : FVec Ideal S256x16384 .fp8e4m3) y * sc (arg3.view.read (Elt Ideal) f3 (ix2 (y 0) ⟨(y 1).val / 32, by have : (y 1).val < 16384 := (y 1).isLt; omega⟩))))
    _ ?_ (ix2 r q) ?_
  · intro p hp x
    obtain ⟨c, -, rfl⟩ := List.mem_map.mp hp
    obtain ⟨r, l, rfl⟩ : ∃ (r : Fin 256) (l : Fin 128), x = ix2 r l := ⟨x 0, x 1, eq_ix2 x⟩
    have hi : (i 1).val < 4 := (i 1).isLt
    have e2 : (Rect.unit (s := S256x16384) (k0_off2 i (BitVec.ofNat 32 (128 * c.val))) S256x128.size (k0_off2_inb i h1 c)).emb (ix2 r l)
        = ix2 r ⟨4096 * (i 1).val + 128 * c.val + l.val, by omega⟩ := emb_cols (k0_off2_eq i c) _ r l _ _ rfl rfl
    have e3 : (Rect.unit (s := S256x512) (k0_off1 i) S256x128.size (k0_off1_inb i h1)).emb (ix2 r ⟨4 * c.val + l.val / 32, by omega⟩)
        = ix2 r ⟨128 * (i 1).val + (4 * c.val + l.val / 32), by omega⟩ := emb_cols (k0_off1_eq i) _ r _ _ _ rfl rfl
    refine (chunkX_apply c _ _ r l).trans ?_
    refine congrArg₂ (fun (a b : EReal) => a * b) (congrArg (arg2.view.read (Elt Ideal) f2) rfl) ?_
    refine congrArg sc (congrArg (arg3.view.read (Elt Ideal) f3) (e3.trans ?_))
    have e2' : (pieceX (F := Ideal) i h1 arg2 arg3 f2 f3 c).1.emb (ix2 r l) = ix2 r ⟨4096 * (i 1).val + 128 * c.val + l.val, by omega⟩ := e2
    rw [e2']
    refine congrArg (ix2 r) (Fin.ext ?_)
    show 128 * (i 1).val + (4 * c.val + l.val / 32) = (4096 * (i 1).val + 128 * c.val + l.val) / 32
    omega
  · exact ⟨pieceX i h1 arg2 arg3 f2 f3 ⟨(q.val - 4096 * (i 1).val) / 128, by omega⟩, List.mem_map.mpr ⟨_, mem_chunks _, rfl⟩,
      (mem_cols (k0_off2_eq i _) (k0_off2_inb i h1 _) r q).mpr (by show _ ≤ _ ∧ _ < _; dsimp only; omega)⟩

/-- and the others are as they were. -/
theorem read_piecesX_old (i : grid0.Coords) (h1 : k0_cond1 i = 1#1) (arg2 : Memref sig .tc .vmem S256x16384 .fp8e4m3) (arg3 : Memref sig .tc .vmem S256x512 .i8)
    (f2 : BufTy.Contents (Elt Ideal) arg2.view.ty) (f3 : BufTy.Contents (Elt Ideal) arg3.view.ty)
    (arg11 : Memref sig .tc .vmem S256x16384 .bf16) (f : BufTy.Contents (Elt Ideal) arg11.view.ty) (r : Fin 256) (q : Fin 16384)
    (hq : q.val < 4096 * (i 1).val ∨ 4096 * (i 1).val + 4096 ≤ q.val) :
    arg11.view.read (Elt Ideal) (arg11.view.writes (Elt Ideal) f (piecesX i h1 arg2 arg3 f2 f3)) (ix2 r q) = arg11.view.read (Elt Ideal) f (ix2 r q) := by
  refine View.read_writes_apply_of_forall_not_mem arg11.view f _ _ fun p hp hm => ?_
  obtain ⟨c, -, rfl⟩ := List.mem_map.mp hp
  have := (mem_cols (k0_off2_eq i c) (k0_off2_inb i h1 c) r q).mp hm
  omega

/-- The accumulator after the store of a block of the contraction. -/
theorem read_acc (arg4 : Memref sig .tc .vmem S4096x512 .fp8e4m3) (arg5 : Memref sig .tc .vmem S128x512 .i8) (arg12 : Memref sig .tc .vmem S256x512 .f32)
    (f4 : BufTy.Contents (Elt Ideal) arg4.view.ty) (f5 : BufTy.Contents (Elt Ideal) arg5.view.ty) (f : BufTy.Contents (Elt Ideal) arg12.view.ty)
    (x : FVec Ideal S256x4096 .bf16) (a : FVec Ideal S256x512 .f32) {off4 off5 off12 : Fin 2 → ℕ} (inb4) (inb5) (inb12) (L) (r : Fin 256) (q : Fin 512) :
    (arg12.view.read (Elt Ideal) (arg12.view.writes (Elt Ideal) f (⟨Rect.unit off12 S256x512.size inb12,
        k0_pay908 (F := Ideal) (arg5.view.readAt (Elt Ideal) (Rect.unit off5 S128x512.size inb5).toLoadRect f5)
          (arg4.view.readAt (Elt Ideal) (Rect.unit off4 S4096x512.size inb4).toLoadRect f4) x a⟩ :: L)) : FVec Ideal S256x512 .f32) (ix2 r q)
      = a (ix2 r q) + ∑ k : Fin 4096, x (ix2 r k) * ((arg4.view.read (Elt Ideal) f4 : FVec Ideal S4096x512 .fp8e4m3) (ix2 k q)
          * sc (arg5.view.read (Elt Ideal) f5 (ix2 ⟨k.val / 32, by omega⟩ q))) := by
  rw [View.read_writes_full, View.readAt_full, View.readAt_full]
  exact pay908_apply _ _ x a r q

/-- A block of columns put in its place, -/
theorem read_block {R C m : ℕ} {e : EltTy} (M : Memref sig .tc .vmem ⟨2, ![R, C]⟩ e) (f : BufTy.Contents (Elt Ideal) M.view.ty)
    {off : Fin 2 → ℕ} {o : ℕ} (ho : off = ![0, o]) (inb : ∀ a, off a + (⟨2, ![R, m]⟩ : Shape).size a ≤ (⟨2, ![R, C]⟩ : Shape).size a)
    (w : (⟨2, ![R, m]⟩ : Shape).Idx → Elt Ideal e) (r : Fin R) (q : Fin m) (h : o + q.val < C) :
    M.view.read (Elt Ideal) (M.view.writes (Elt Ideal) f [⟨Rect.unit off (⟨2, ![R, m]⟩ : Shape).size inb, w⟩]) (ix2 r ⟨o + q.val, h⟩) = w (ix2 r q) :=
  View.read_writes_cons_hit M.view f (Rect.unit (s := ⟨2, ![R, C]⟩) off (⟨2, ![R, m]⟩ : Shape).size inb) w [] (ix2 r q) _ (emb_cols ho inb r q r _ rfl rfl)

/-- and the rest as it was. -/
theorem read_block_old {R C m : ℕ} {e : EltTy} (M : Memref sig .tc .vmem ⟨2, ![R, C]⟩ e) (f : BufTy.Contents (Elt Ideal) M.view.ty)
    {off : Fin 2 → ℕ} {o : ℕ} (ho : off = ![0, o]) (inb : ∀ a, off a + (⟨2, ![R, m]⟩ : Shape).size a ≤ (⟨2, ![R, C]⟩ : Shape).size a)
    (w : (⟨2, ![R, m]⟩ : Shape).Idx → Elt Ideal e) (r : Fin R) (q : Fin C) (h : q.val < o ∨ o + m ≤ q.val) :
    M.view.read (Elt Ideal) (M.view.writes (Elt Ideal) f [⟨Rect.unit off (⟨2, ![R, m]⟩ : Shape).size inb, w⟩]) (ix2 r q) = M.view.read (Elt Ideal) f (ix2 r q) :=
  View.read_writes_cons_miss M.view f _ [] _ fun hm => by
    have := (mem_cols ho inb r q).mp hm
    omega

end Cert.KernelIdeal.Hand
-- ==== Proof.ILists.lean ====
/-
  WHAT ONE POINT OF THE GRID COMPUTES, over the extended reals, element by element: `Step` relates what the buffers held
  before a point to what they hold after it. The seven cases of the body meet it.
-/
module

public import proofs.«01_k».proof.Proof.IStores
public import proofs.«01_k».proof.Proof.IBody
public import Idealize.ShloMosaic.Lib.Pointwise
public import Idealize.ShloMosaic.Lib.VecWindow
public import Idealize.ShloMosaic.Lib.Tactic

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic

/-- A point of column block `j` and contraction block `k`: from the codes `x2`, their scale bytes `b3`, the block `w4` of the
    weights' codes and its scale bytes `b5` and the block `r6` of the residual. -/
structure Step (j k : ℕ) (x2 : FVec Ideal S256x16384 .fp8e4m3) (b3 : Vec Ideal S256x512 .i8) (w4 : FVec Ideal S4096x512 .fp8e4m3)
    (b5 : Vec Ideal S128x512 .i8) (r6 : FVec Ideal S256x512 .bf16) (o8 : FVec Ideal S256x512 .bf16) (xb xb' : FVec Ideal S256x16384 .bf16)
    (a a' : FVec Ideal S256x512 .f32) (h h' : FVec Ideal S256x7168 .bf16) (s s' : FVec Ideal S256x128 .f32) : Prop where
  /-- in the first column block the body scales its share of the activations, -/
  xb_new : j = 0 → ∀ (r : Fin 256) (q : Fin 16384), 4096 * k ≤ q.val → q.val < 4096 * k + 4096 →
    xb' (ix2 r q) = x2 (ix2 r q) * sc (b3 (ix2 r ⟨q.val / 32, by omega⟩))
  /-- and leaves the rest; -/
  xb_old : ∀ (r : Fin 256) (q : Fin 16384), (j = 0 → q.val < 4096 * k ∨ 4096 * k + 4096 ≤ q.val) → xb' (ix2 r q) = xb (ix2 r q)
  /-- it adds its block of the contraction; -/
  acc : ∀ (hk : k < 4) (r : Fin 256) (q : Fin 512), a' (ix2 r q) = (if k = 0 then 0 else a (ix2 r q))
    + ∑ p : Fin 4096, xb' (ix2 r ⟨4096 * k + p.val, by omega⟩) * (w4 (ix2 p q) * sc (b5 (ix2 ⟨p.val / 32, by omega⟩ q)))
  /-- at the last block of the contraction the block of `h` is stored, -/
  out : k = 3 → ∀ y, o8 y = r6 y + a' y
  /-- and kept in its place, -/
  h_new : k = 3 → ∀ (hj : j < 14) (r : Fin 256) (q : Fin 512), h' (ix2 r ⟨512 * j + q.val, by omega⟩) = r6 (ix2 r q) + a' (ix2 r q)
  h_old : ∀ (r : Fin 256) (q : Fin 7168), (k = 3 → q.val < 512 * j ∨ 512 * j + 512 ≤ q.val) → h' (ix2 r q) = h (ix2 r q)
  /-- and its squares are added to the lanes. -/
  s_new : k = 3 → ∀ (r : Fin 256) (l : Fin 128), s' (ix2 r l) = (if j = 0 then 0 else s (ix2 r l))
    + ∑ p : Fin 4, (r6 (ix2 r ⟨128 * p.val + l.val, by omega⟩) + a' (ix2 r ⟨128 * p.val + l.val, by omega⟩))
        * (r6 (ix2 r ⟨128 * p.val + l.val, by omega⟩) + a' (ix2 r ⟨128 * p.val + l.val, by omega⟩))
  s_old : k ≠ 3 → s' = s

theorem coord_cond1 : ∀ i : grid0.Coords, k0_cond1 i = 1#1 ↔ (i 0).val = 0 := by decide +kernel
theorem coord_cond2 : ∀ i : grid0.Coords, cond2 i = 1#1 ↔ (i 1).val = 0 := by decide +kernel
theorem coord_cond3 : ∀ i : grid0.Coords, k0_cond3 i = 1#1 ↔ (i 1).val = 3 := by decide +kernel

/-- The rectangle of the contraction block's columns of the activations, at an element. -/
theorem x_cols (i : grid0.Coords) (arg11 : Memref sig .tc .vmem S256x16384 .bf16) (f : BufTy.Contents (Elt Ideal) arg11.view.ty)
    (r : Fin 256) (p : Fin 4096) (h : 4096 * (i 1).val + p.val < 16384) :
    (arg11.view.readAt (Elt Ideal) (Rect.unit (s := S256x16384) (k0_off3 i) S256x4096.size (k0_off3_inb i)).toLoadRect f : FVec Ideal S256x4096 .bf16) (ix2 r p)
      = arg11.view.read (Elt Ideal) f (ix2 r ⟨4096 * (i 1).val + p.val, h⟩) :=
  congrArg (arg11.view.read (Elt Ideal) f) (emb_cols (k0_off3_eq i) (k0_off3_inb i) r p r _ rfl rfl)

section lists

variable {F : FTy → Type} [FloatOps F] [Named F]

theorem lists_A0 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : k0_cond1 i = 1#1) (h2 : cond2 i = 1#1) (h3 : ¬ k0_cond3 i = 1#1) (h4 : cond4 i = 1#1) (h5 : ¬ cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (runA0 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1 = piecesX i h1 arg2 arg3 f2 f3
      ∧ (runA0 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1 = (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readCov (piecesX i h1 arg2 arg3 f2 f3) (Rect.unit (s := S256x16384) (k0_off3 i) S256x4096.size (k0_off3_inb i)).toLoadRect) (arg12.view.readCov [⟨(Rect.unit (s := S256x512) ![0, 0] S256x512.size (by decide)), k0_pay907⟩] (Rect.unit (s := S256x512) ![0, 0] S256x512.size (by decide)).toLoadRect)⟩ :: [⟨(Rect.unit (s := S256x512) ![0, 0] S256x512.size (by decide)), k0_pay907⟩]) := by
  unfold runA0
  exact ⟨rfl, rfl⟩

theorem lists_A1 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : k0_cond1 i = 1#1) (h2 : ¬ cond2 i = 1#1) (h3 : ¬ k0_cond3 i = 1#1) (h4 : cond4 i = 1#1) (h5 : ¬ cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (runA1 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1 = piecesX i h1 arg2 arg3 f2 f3
      ∧ (runA1 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1 = (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readCov (piecesX i h1 arg2 arg3 f2 f3) (Rect.unit (s := S256x16384) (k0_off3 i) S256x4096.size (k0_off3_inb i)).toLoadRect) (arg12.view.readAt (Elt F) (Rect.unit (s := S256x512) ![0, 0] S256x512.size (by decide)).toLoadRect f12)⟩ :: []) := by
  unfold runA1
  exact ⟨rfl, rfl⟩

theorem lists_A3 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : k0_cond1 i = 1#1) (h2 : ¬ cond2 i = 1#1) (h3 : k0_cond3 i = 1#1) (h4 : cond4 i = 1#1) (h5 : ¬ cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (runA3 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1 = [⟨(Rect.unit (s := S256x512) ![0, 0] S256x512.size (by decide)), k0_pay909 (arg6.view.readAt (Elt F) (Rect.unit (s := S256x512) ![0, 0] S256x512.size (by decide)).toLoadRect f6) (arg12.view.readCov (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readCov (piecesX i h1 arg2 arg3 f2 f3) (Rect.unit (s := S256x16384) (k0_off3 i) S256x4096.size (k0_off3_inb i)).toLoadRect) (arg12.view.readAt (Elt F) (Rect.unit (s := S256x512) ![0, 0] S256x512.size (by decide)).toLoadRect f12)⟩ :: []) (Rect.unit (s := S256x512) ![0, 0] S256x512.size (by decide)).toLoadRect)⟩]
      ∧ (runA3 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1 = piecesX i h1 arg2 arg3 f2 f3
      ∧ (runA3 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.1 = (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readCov (piecesX i h1 arg2 arg3 f2 f3) (Rect.unit (s := S256x16384) (k0_off3 i) S256x4096.size (k0_off3_inb i)).toLoadRect) (arg12.view.readAt (Elt F) (Rect.unit (s := S256x512) ![0, 0] S256x512.size (by decide)).toLoadRect f12)⟩ :: [])
      ∧ (runA3 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.1 = [⟨Rect.unit (s := S256x7168) (k0_off4 i) S256x512.size (k0_off4_inb i h3), k0_pay910 (arg6.view.readAt (Elt F) (Rect.unit (s := S256x512) ![0, 0] S256x512.size (by decide)).toLoadRect f6) (arg12.view.readCov (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readCov (piecesX i h1 arg2 arg3 f2 f3) (Rect.unit (s := S256x16384) (k0_off3 i) S256x4096.size (k0_off3_inb i)).toLoadRect) (arg12.view.readAt (Elt F) (Rect.unit (s := S256x512) ![0, 0] S256x512.size (by decide)).toLoadRect f12)⟩ :: []) (Rect.unit (s := S256x512) ![0, 0] S256x512.size (by decide)).toLoadRect)⟩]
      ∧ (runA3 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.1 = [⟨(Rect.unit (s := S256x128) ![0, 0] S256x128.size (by decide)), k0_pay912 (arg6.view.readAt (Elt F) (Rect.unit (s := S256x512) ![0, 0] S256x512.size (by decide)).toLoadRect f6) (arg12.view.readCov (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readCov (piecesX i h1 arg2 arg3 f2 f3) (Rect.unit (s := S256x16384) (k0_off3 i) S256x4096.size (k0_off3_inb i)).toLoadRect) (arg12.view.readAt (Elt F) (Rect.unit (s := S256x512) ![0, 0] S256x512.size (by decide)).toLoadRect f12)⟩ :: []) (Rect.unit (s := S256x512) ![0, 0] S256x512.size (by decide)).toLoadRect)⟩] := by
  unfold runA3
  exact ⟨rfl, rfl, rfl, rfl, rfl⟩

theorem lists_B0 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : cond2 i = 1#1) (h3 : ¬ k0_cond3 i = 1#1) (h4 : ¬ cond4 i = 1#1) (h5 : cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (runB0 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1 = (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readCov [⟨(Rect.unit (s := S256x512) ![0, 0] S256x512.size (by decide)), k0_pay907⟩] (Rect.unit (s := S256x512) ![0, 0] S256x512.size (by decide)).toLoadRect)⟩ :: [⟨(Rect.unit (s := S256x512) ![0, 0] S256x512.size (by decide)), k0_pay907⟩]) := by
  unfold runB0
  exact rfl

theorem lists_B1 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : ¬ cond2 i = 1#1) (h3 : ¬ k0_cond3 i = 1#1) (h4 : ¬ cond4 i = 1#1) (h5 : cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (runB1 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1 = (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readAt (Elt F) (Rect.unit (s := S256x512) ![0, 0] S256x512.size (by decide)).toLoadRect f12)⟩ :: []) := by
  unfold runB1
  exact rfl

theorem lists_B3 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : ¬ cond2 i = 1#1) (h3 : k0_cond3 i = 1#1) (h4 : ¬ cond4 i = 1#1) (h5 : cond5 i = 1#1) (h6 : ¬ k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (runB3 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1 = [⟨(Rect.unit (s := S256x512) ![0, 0] S256x512.size (by decide)), k0_pay909 (arg6.view.readAt (Elt F) (Rect.unit (s := S256x512) ![0, 0] S256x512.size (by decide)).toLoadRect f6) (arg12.view.readCov (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readAt (Elt F) (Rect.unit (s := S256x512) ![0, 0] S256x512.size (by decide)).toLoadRect f12)⟩ :: []) (Rect.unit (s := S256x512) ![0, 0] S256x512.size (by decide)).toLoadRect)⟩]
      ∧ (runB3 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1 = (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readAt (Elt F) (Rect.unit (s := S256x512) ![0, 0] S256x512.size (by decide)).toLoadRect f12)⟩ :: [])
      ∧ (runB3 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.1 = [⟨Rect.unit (s := S256x7168) (k0_off4 i) S256x512.size (k0_off4_inb i h3), k0_pay910 (arg6.view.readAt (Elt F) (Rect.unit (s := S256x512) ![0, 0] S256x512.size (by decide)).toLoadRect f6) (arg12.view.readCov (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readAt (Elt F) (Rect.unit (s := S256x512) ![0, 0] S256x512.size (by decide)).toLoadRect f12)⟩ :: []) (Rect.unit (s := S256x512) ![0, 0] S256x512.size (by decide)).toLoadRect)⟩]
      ∧ (runB3 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.1 = [⟨(Rect.unit (s := S256x128) ![0, 0] S256x128.size (by decide)), k0_pay913 (arg6.view.readAt (Elt F) (Rect.unit (s := S256x512) ![0, 0] S256x512.size (by decide)).toLoadRect f6) (arg12.view.readCov (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readAt (Elt F) (Rect.unit (s := S256x512) ![0, 0] S256x512.size (by decide)).toLoadRect f12)⟩ :: []) (Rect.unit (s := S256x512) ![0, 0] S256x512.size (by decide)).toLoadRect) (arg14.view.readAt (Elt F) (Rect.unit (s := S256x128) ![0, 0] S256x128.size (by decide)).toLoadRect f14)⟩] := by
  unfold runB3
  exact ⟨rfl, rfl, rfl, rfl⟩

theorem lists_B4 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (h1 : ¬ k0_cond1 i = 1#1) (h2 : ¬ cond2 i = 1#1) (h3 : k0_cond3 i = 1#1) (h4 : ¬ cond4 i = 1#1) (h5 : cond5 i = 1#1) (h6 : k0_cond6 i = 1#1)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    (runB4 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).1 = [⟨(Rect.unit (s := S256x512) ![0, 0] S256x512.size (by decide)), k0_pay909 (arg6.view.readAt (Elt F) (Rect.unit (s := S256x512) ![0, 0] S256x512.size (by decide)).toLoadRect f6) (arg12.view.readCov (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readAt (Elt F) (Rect.unit (s := S256x512) ![0, 0] S256x512.size (by decide)).toLoadRect f12)⟩ :: []) (Rect.unit (s := S256x512) ![0, 0] S256x512.size (by decide)).toLoadRect)⟩]
      ∧ (runB4 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.1 = (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readAt (Elt F) (Rect.unit (s := S256x512) ![0, 0] S256x512.size (by decide)).toLoadRect f12)⟩ :: [])
      ∧ (runB4 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.1 = [⟨Rect.unit (s := S256x7168) (k0_off4 i) S256x512.size (k0_off4_inb i h3), k0_pay910 (arg6.view.readAt (Elt F) (Rect.unit (s := S256x512) ![0, 0] S256x512.size (by decide)).toLoadRect f6) (arg12.view.readCov (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readAt (Elt F) (Rect.unit (s := S256x512) ![0, 0] S256x512.size (by decide)).toLoadRect f12)⟩ :: []) (Rect.unit (s := S256x512) ![0, 0] S256x512.size (by decide)).toLoadRect)⟩]
      ∧ (runB4 (F := F) 𝒱 c bd i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2.1 = [⟨(Rect.unit (s := S256x128) ![0, 0] S256x128.size (by decide)), k0_pay913 (arg6.view.readAt (Elt F) (Rect.unit (s := S256x512) ![0, 0] S256x512.size (by decide)).toLoadRect f6) (arg12.view.readCov (⟨(Rect.unit (s := S256x512) ![0, 0] S256x512.size (by decide)), k0_pay908 (arg5.view.readAt (Elt F) (Rect.unit (s := S128x512) ![0, 0] S128x512.size (by decide)).toLoadRect f5) (arg4.view.readAt (Elt F) (Rect.unit (s := S4096x512) ![0, 0] S4096x512.size (by decide)).toLoadRect f4) (arg11.view.readAt (Elt F) (Rect.unit (s := S256x16384) (k0_off3 i) S256x4096.size (k0_off3_inb i)).toLoadRect f11) (arg12.view.readAt (Elt F) (Rect.unit (s := S256x512) ![0, 0] S256x512.size (by decide)).toLoadRect f12)⟩ :: []) (Rect.unit (s := S256x512) ![0, 0] S256x512.size (by decide)).toLoadRect) (arg14.view.readAt (Elt F) (Rect.unit (s := S256x128) ![0, 0] S256x128.size (by decide)).toLoadRect f14)⟩] := by
  unfold runB4
  exact ⟨rfl, rfl, rfl, rfl⟩

end lists

end Cert.KernelIdeal.Hand
-- ==== Proof.ISteps.lean ====
/-
  ONE POINT OF THE GRID MEETS `Step`: each of the seven ways through the body, its stores read back.
-/
module

public import proofs.«01_k».proof.Proof.ILists
public import Idealize.ShloMosaic.Lib.Pointwise
public import Idealize.ShloMosaic.Lib.VecWindow
public import Idealize.ShloMosaic.Lib.Tactic

@[expose] public section

set_option maxRecDepth 16384
set_option maxHeartbeats 200000

noncomputable section

namespace Cert.KernelIdeal.Hand

open Cert.KernelIdeal Cert.KernelIdeal.Gen
open Idealize.ShloMosaic Idealize.ShloMosaic.TcCoe Idealize.ShloMosaic.Tactic

/-- The block's columns of the activations just scaled, as the body reads them back. -/
theorem x_cov (i : grid0.Coords) (h1 : k0_cond1 i = 1#1) (arg2 : Memref sig .tc .vmem S256x16384 .fp8e4m3) (arg3 : Memref sig .tc .vmem S256x512 .i8)
    (f2 : BufTy.Contents (Elt Ideal) arg2.view.ty) (f3 : BufTy.Contents (Elt Ideal) arg3.view.ty)
    (arg11 : Memref sig .tc .vmem S256x16384 .bf16) (f : BufTy.Contents (Elt Ideal) arg11.view.ty) (r : Fin 256) (p : Fin 4096)
    (h : 4096 * (i 1).val + p.val < 16384) :
    (arg11.view.readCov (piecesX i h1 arg2 arg3 f2 f3) (Rect.unit (s := S256x16384) (k0_off3 i) S256x4096.size (k0_off3_inb i)).toLoadRect : FVec Ideal S256x4096 .bf16) (ix2 r p)
      = arg11.view.read (Elt Ideal) (arg11.view.writes (Elt Ideal) f (piecesX i h1 arg2 arg3 f2 f3)) (ix2 r ⟨4096 * (i 1).val + p.val, h⟩) := by
  refine (x_cols i arg11 _ r p h).trans ?_
  rw [read_piecesX i h1 arg2 arg3 f2 f3 arg11 _ r ⟨4096 * (i 1).val + p.val, h⟩ (Nat.le_add_right _ _) (by show 4096 * (i 1).val + p.val < _; omega),
    read_piecesX i h1 arg2 arg3 f2 f3 arg11 _ r ⟨4096 * (i 1).val + p.val, h⟩ (Nat.le_add_right _ _) (by show 4096 * (i 1).val + p.val < _; omega)]

/-- The accumulator's element after the block, for whichever way the block's columns and the accumulator were read. -/
theorem acc_step (k : ℕ) (hk : k < 4) (arg4 : Memref sig .tc .vmem S4096x512 .fp8e4m3) (arg5 : Memref sig .tc .vmem S128x512 .i8) (arg12 : Memref sig .tc .vmem S256x512 .f32)
    (f4 : BufTy.Contents (Elt Ideal) arg4.view.ty) (f5 : BufTy.Contents (Elt Ideal) arg5.view.ty) (f : BufTy.Contents (Elt Ideal) arg12.view.ty)
    (x : FVec Ideal S256x4096 .bf16) (a : FVec Ideal S256x512 .f32) {off4 off5 off12 : Fin 2 → ℕ} (inb4) (inb5) (inb12) (L)
    (a₀ : FVec Ideal S256x512 .f32) (xb : FVec Ideal S256x16384 .bf16)
    (hx : ∀ (r : Fin 256) (p : Fin 4096), x (ix2 r p) = xb (ix2 r ⟨4096 * k + p.val, by omega⟩))
    (ha : ∀ (r : Fin 256) (q : Fin 512), a (ix2 r q) = if k = 0 then 0 else a₀ (ix2 r q)) (r : Fin 256) (q : Fin 512) :
    (arg12.view.read (Elt Ideal) (arg12.view.writes (Elt Ideal) f (⟨Rect.unit off12 S256x512.size inb12,
        k0_pay908 (F := Ideal) (arg5.view.readAt (Elt Ideal) (Rect.unit off5 S128x512.size inb5).toLoadRect f5)
          (arg4.view.readAt (Elt Ideal) (Rect.unit off4 S4096x512.size inb4).toLoadRect f4) x a⟩ :: L)) : FVec Ideal S256x512 .f32) (ix2 r q)
      = (if k = 0 then 0 else a₀ (ix2 r q)) + ∑ p : Fin 4096, xb (ix2 r ⟨4096 * k + p.val, by omega⟩) * ((arg4.view.read (Elt Ideal) f4 : FVec Ideal S4096x512 .fp8e4m3) (ix2 p q)
          * sc (arg5.view.read (Elt Ideal) f5 (ix2 ⟨p.val / 32, by omega⟩ q))) := by
  rw [read_acc, ha]
  exact congrArg _ (Finset.sum_congr rfl fun p _ => by rw [hx])

/-- Zeros written over the whole accumulator and read back. -/
theorem zeros_cov (arg12 : Memref sig .tc .vmem S256x512 .f32) {off off' : Fin 2 → ℕ} (inb) (inb') (y : S256x512.Idx) :
    View.readCov (Val := Elt Ideal) arg12.view [⟨Rect.unit (s := S256x512) off S256x512.size inb, k0_pay907 (F := Ideal)⟩] (Rect.unit (s := S256x512) off' S256x512.size inb').toLoadRect y = (0 : EReal) := by
  rw [View.readCov_full]
  exact pay907_apply y

/-- A claim of lists follows from the same claim of lists equal to them. -/
theorem tr1 {α : Type*} (P : α → Prop) {a a' : α} (e : a = a') (h : P a') : P a := e ▸ h
/-- The same for two lists. -/
theorem tr2 {α β : Type*} (P : α → β → Prop) {a a' : α} {b b' : β} (e : a = a' ∧ b = b') (h : P a' b') : P a b := by
  obtain ⟨rfl, rfl⟩ := e; exact h
/-- The same for four. -/
theorem tr4 {α β γ δ : Type*} (P : α → β → γ → δ → Prop) {a a' : α} {b b' : β} {c c' : γ} {d d' : δ}
    (e : a = a' ∧ b = b' ∧ c = c' ∧ d = d') (h : P a' b' c' d') : P a b c d := by
  obtain ⟨rfl, rfl, rfl, rfl⟩ := e; exact h
/-- The same for five. -/
theorem tr5 {α β γ δ ε : Type*} (P : α → β → γ → δ → ε → Prop) {a a' : α} {b b' : β} {c c' : γ} {d d' : δ} {f f' : ε}
    (e : a = a' ∧ b = b' ∧ c = c' ∧ d = d' ∧ f = f') (h : P a' b' c' d' f') : P a b c d f := by
  obtain ⟨rfl, rfl, rfl, rfl, rfl⟩ := e; exact h

/-- Every way through the body meets `Step`. -/
theorem outcome_step (c : Dev nD) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
    (g8 : BufTy.Contents (Elt Ideal) arg8.view.ty) (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (g13 : BufTy.Contents (Elt Ideal) arg13.view.ty) (g14 : BufTy.Contents (Elt Ideal) arg14.view.ty)
    (ho : Outcome (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14) :
    Step (i 0).val (i 1).val (arg2.view.read (Elt Ideal) f2) (arg3.view.read (Elt Ideal) f3) (arg4.view.read (Elt Ideal) f4)
      (arg5.view.read (Elt Ideal) f5) (arg6.view.read (Elt Ideal) f6) (arg8.view.read (Elt Ideal) g8)
      (arg11.view.read (Elt Ideal) f11) (arg11.view.read (Elt Ideal) g11) (arg12.view.read (Elt Ideal) f12) (arg12.view.read (Elt Ideal) g12)
      (arg13.view.read (Elt Ideal) f13) (arg13.view.read (Elt Ideal) g13) (arg14.view.read (Elt Ideal) f14) (arg14.view.read (Elt Ideal) g14) := by
  have hi : (i 1).val < 4 := (i 1).isLt
  cases ho with
  | A0 h1 h2 h3 h4 h5 h6 =>
    refine tr2 (fun l11 l12 => Step (i 0).val (i 1).val (arg2.view.read (Elt Ideal) f2) (arg3.view.read (Elt Ideal) f3) (arg4.view.read (Elt Ideal) f4)
      (arg5.view.read (Elt Ideal) f5) (arg6.view.read (Elt Ideal) f6) (arg8.view.read (Elt Ideal) f8)
      (arg11.view.read (Elt Ideal) f11) (arg11.view.read (Elt Ideal) (arg11.view.writes (Elt Ideal) f11 l11)) (arg12.view.read (Elt Ideal) f12) (arg12.view.read (Elt Ideal) (arg12.view.writes (Elt Ideal) f12 l12))
      (arg13.view.read (Elt Ideal) f13) (arg13.view.read (Elt Ideal) f13) (arg14.view.read (Elt Ideal) f14) (arg14.view.read (Elt Ideal) f14)) (lists_A0 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14) ?_
    beta_reduce
    have j0 : (i 0).val = 0 := (coord_cond1 i).mp h1
    have k0 : (i 1).val = 0 := (coord_cond2 i).mp h2
    have k3 : ¬ (i 1).val = 3 := fun h => h3 ((coord_cond3 i).mpr h)
    exact
      { xb_new := fun _ r q hq hq2 => read_piecesX i h1 arg2 arg3 f2 f3 arg11 f11 r q hq hq2
        xb_old := fun r q hq => read_piecesX_old i h1 arg2 arg3 f2 f3 arg11 f11 r q (hq j0)
        acc := fun hk r q => by
          refine acc_step (i 1).val hk arg4 arg5 arg12 f4 f5 _ _ _ _ _ _ _ (arg12.view.read (Elt Ideal) f12) _ ?_ ?_ r q
          · intro r p; exact x_cov i h1 arg2 arg3 f2 f3 arg11 f11 r p _
          · intro r q; exact (zeros_cov arg12 _ _ _).trans (if_pos k0).symm
        out := fun h => absurd h k3
        h_new := fun h => absurd h k3
        h_old := fun _ _ _ => rfl
        s_new := fun h => absurd h k3
        s_old := fun _ => rfl }
  | A1 h1 h2 h3 h4 h5 h6 =>
    refine tr2 (fun l11 l12 => Step (i 0).val (i 1).val (arg2.view.read (Elt Ideal) f2) (arg3.view.read (Elt Ideal) f3) (arg4.view.read (Elt Ideal) f4)
      (arg5.view.read (Elt Ideal) f5) (arg6.view.read (Elt Ideal) f6) (arg8.view.read (Elt Ideal) f8)
      (arg11.view.read (Elt Ideal) f11) (arg11.view.read (Elt Ideal) (arg11.view.writes (Elt Ideal) f11 l11)) (arg12.view.read (Elt Ideal) f12) (arg12.view.read (Elt Ideal) (arg12.view.writes (Elt Ideal) f12 l12))
      (arg13.view.read (Elt Ideal) f13) (arg13.view.read (Elt Ideal) f13) (arg14.view.read (Elt Ideal) f14) (arg14.view.read (Elt Ideal) f14)) (lists_A1 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14) ?_
    beta_reduce
    have j0 : (i 0).val = 0 := (coord_cond1 i).mp h1
    have k0 : ¬ (i 1).val = 0 := fun h => h2 ((coord_cond2 i).mpr h)
    have k3 : ¬ (i 1).val = 3 := fun h => h3 ((coord_cond3 i).mpr h)
    exact
      { xb_new := fun _ r q hq hq2 => read_piecesX i h1 arg2 arg3 f2 f3 arg11 f11 r q hq hq2
        xb_old := fun r q hq => read_piecesX_old i h1 arg2 arg3 f2 f3 arg11 f11 r q (hq j0)
        acc := fun hk r q => by
          refine acc_step (i 1).val hk arg4 arg5 arg12 f4 f5 _ _ _ _ _ _ _ (arg12.view.read (Elt Ideal) f12) _ ?_ ?_ r q
          · intro r p; exact x_cov i h1 arg2 arg3 f2 f3 arg11 f11 r p _
          · intro r q; rw [View.readAt_full, if_neg k0]
        out := fun h => absurd h k3
        h_new := fun h => absurd h k3
        h_old := fun _ _ _ => rfl
        s_new := fun h => absurd h k3
        s_old := fun _ => rfl }
  | A3 h1 h2 h3 h4 h5 h6 =>
    refine tr5 (fun l8 l11 l12 l13 l14 => Step (i 0).val (i 1).val (arg2.view.read (Elt Ideal) f2) (arg3.view.read (Elt Ideal) f3) (arg4.view.read (Elt Ideal) f4)
      (arg5.view.read (Elt Ideal) f5) (arg6.view.read (Elt Ideal) f6) (arg8.view.read (Elt Ideal) (arg8.view.writes (Elt Ideal) f8 l8))
      (arg11.view.read (Elt Ideal) f11) (arg11.view.read (Elt Ideal) (arg11.view.writes (Elt Ideal) f11 l11)) (arg12.view.read (Elt Ideal) f12) (arg12.view.read (Elt Ideal) (arg12.view.writes (Elt Ideal) f12 l12))
      (arg13.view.read (Elt Ideal) f13) (arg13.view.read (Elt Ideal) (arg13.view.writes (Elt Ideal) f13 l13)) (arg14.view.read (Elt Ideal) f14) (arg14.view.read (Elt Ideal) (arg14.view.writes (Elt Ideal) f14 l14))) (lists_A3 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14) ?_
    beta_reduce
    have j0 : (i 0).val = 0 := (coord_cond1 i).mp h1
    have k0 : ¬ (i 1).val = 0 := fun h => h2 ((coord_cond2 i).mpr h)
    have k3 : (i 1).val = 3 := (coord_cond3 i).mp h3
    exact
      { xb_new := fun _ r q hq hq2 => read_piecesX i h1 arg2 arg3 f2 f3 arg11 f11 r q hq hq2
        xb_old := fun r q hq => read_piecesX_old i h1 arg2 arg3 f2 f3 arg11 f11 r q (hq j0)
        acc := fun hk r q => by
          refine acc_step (i 1).val hk arg4 arg5 arg12 f4 f5 _ _ _ _ _ _ _ (arg12.view.read (Elt Ideal) f12) _ ?_ ?_ r q
          · intro r p; exact x_cov i h1 arg2 arg3 f2 f3 arg11 f11 r p _
          · intro r q; rw [View.readAt_full, if_neg k0]
        out := fun _ y => by
          rw [View.read_writes_full, View.read_writes_full, View.readAt_full, View.readCov_full]
          exact pay909_apply _ _ y
        h_new := fun _ hj r q => by
          rw [View.read_writes_full, View.readAt_full, View.readCov_full]
          exact (read_block arg13 f13 (k0_off4_eq i) (k0_off4_inb i h3) _ r q _).trans (pay910_apply _ _ _)
        h_old := fun r q h => read_block_old arg13 f13 (k0_off4_eq i) (k0_off4_inb i h3) _ r q (h k3)
        s_new := fun _ r l => by
          rw [View.read_writes_full, View.read_writes_full, View.readAt_full, View.readCov_full, if_pos j0]
          refine (pay912_apply _ _ _).trans ((pay911_apply _ _ r l).trans (zero_add _).symm)
        s_old := fun h => absurd k3 h }
  | B0 h1 h2 h3 h4 h5 h6 =>
    refine tr1 (fun l12 => Step (i 0).val (i 1).val (arg2.view.read (Elt Ideal) f2) (arg3.view.read (Elt Ideal) f3) (arg4.view.read (Elt Ideal) f4)
      (arg5.view.read (Elt Ideal) f5) (arg6.view.read (Elt Ideal) f6) (arg8.view.read (Elt Ideal) f8)
      (arg11.view.read (Elt Ideal) f11) (arg11.view.read (Elt Ideal) f11) (arg12.view.read (Elt Ideal) f12) (arg12.view.read (Elt Ideal) (arg12.view.writes (Elt Ideal) f12 l12))
      (arg13.view.read (Elt Ideal) f13) (arg13.view.read (Elt Ideal) f13) (arg14.view.read (Elt Ideal) f14) (arg14.view.read (Elt Ideal) f14)) (lists_B0 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14) ?_
    beta_reduce
    have j0 : ¬ (i 0).val = 0 := fun h => h1 ((coord_cond1 i).mpr h)
    have k0 : (i 1).val = 0 := (coord_cond2 i).mp h2
    have k3 : ¬ (i 1).val = 3 := fun h => h3 ((coord_cond3 i).mpr h)
    exact
      { xb_new := fun h => absurd h j0
        xb_old := fun r q hq => rfl
        acc := fun hk r q => by
          refine acc_step (i 1).val hk arg4 arg5 arg12 f4 f5 _ _ _ _ _ _ _ (arg12.view.read (Elt Ideal) f12) _ ?_ ?_ r q
          · intro r p; exact x_cols i arg11 f11 r p _
          · intro r q; exact (zeros_cov arg12 _ _ _).trans (if_pos k0).symm
        out := fun h => absurd h k3
        h_new := fun h => absurd h k3
        h_old := fun _ _ _ => rfl
        s_new := fun h => absurd h k3
        s_old := fun _ => rfl }
  | B1 h1 h2 h3 h4 h5 h6 =>
    refine tr1 (fun l12 => Step (i 0).val (i 1).val (arg2.view.read (Elt Ideal) f2) (arg3.view.read (Elt Ideal) f3) (arg4.view.read (Elt Ideal) f4)
      (arg5.view.read (Elt Ideal) f5) (arg6.view.read (Elt Ideal) f6) (arg8.view.read (Elt Ideal) f8)
      (arg11.view.read (Elt Ideal) f11) (arg11.view.read (Elt Ideal) f11) (arg12.view.read (Elt Ideal) f12) (arg12.view.read (Elt Ideal) (arg12.view.writes (Elt Ideal) f12 l12))
      (arg13.view.read (Elt Ideal) f13) (arg13.view.read (Elt Ideal) f13) (arg14.view.read (Elt Ideal) f14) (arg14.view.read (Elt Ideal) f14)) (lists_B1 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14) ?_
    beta_reduce
    have j0 : ¬ (i 0).val = 0 := fun h => h1 ((coord_cond1 i).mpr h)
    have k0 : ¬ (i 1).val = 0 := fun h => h2 ((coord_cond2 i).mpr h)
    have k3 : ¬ (i 1).val = 3 := fun h => h3 ((coord_cond3 i).mpr h)
    exact
      { xb_new := fun h => absurd h j0
        xb_old := fun r q hq => rfl
        acc := fun hk r q => by
          refine acc_step (i 1).val hk arg4 arg5 arg12 f4 f5 _ _ _ _ _ _ _ (arg12.view.read (Elt Ideal) f12) _ ?_ ?_ r q
          · intro r p; exact x_cols i arg11 f11 r p _
          · intro r q; rw [View.readAt_full, if_neg k0]
        out := fun h => absurd h k3
        h_new := fun h => absurd h k3
        h_old := fun _ _ _ => rfl
        s_new := fun h => absurd h k3
        s_old := fun _ => rfl }
  | B3 h1 h2 h3 h4 h5 h6 =>
    refine tr4 (fun l8 l12 l13 l14 => Step (i 0).val (i 1).val (arg2.view.read (Elt Ideal) f2) (arg3.view.read (Elt Ideal) f3) (arg4.view.read (Elt Ideal) f4)
      (arg5.view.read (Elt Ideal) f5) (arg6.view.read (Elt Ideal) f6) (arg8.view.read (Elt Ideal) (arg8.view.writes (Elt Ideal) f8 l8))
      (arg11.view.read (Elt Ideal) f11) (arg11.view.read (Elt Ideal) f11) (arg12.view.read (Elt Ideal) f12) (arg12.view.read (Elt Ideal) (arg12.view.writes (Elt Ideal) f12 l12))
      (arg13.view.read (Elt Ideal) f13) (arg13.view.read (Elt Ideal) (arg13.view.writes (Elt Ideal) f13 l13)) (arg14.view.read (Elt Ideal) f14) (arg14.view.read (Elt Ideal) (arg14.view.writes (Elt Ideal) f14 l14))) (lists_B3 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14) ?_
    beta_reduce
    have j0 : ¬ (i 0).val = 0 := fun h => h1 ((coord_cond1 i).mpr h)
    have k0 : ¬ (i 1).val = 0 := fun h => h2 ((coord_cond2 i).mpr h)
    have k3 : (i 1).val = 3 := (coord_cond3 i).mp h3
    exact
      { xb_new := fun h => absurd h j0
        xb_old := fun r q hq => rfl
        acc := fun hk r q => by
          refine acc_step (i 1).val hk arg4 arg5 arg12 f4 f5 _ _ _ _ _ _ _ (arg12.view.read (Elt Ideal) f12) _ ?_ ?_ r q
          · intro r p; exact x_cols i arg11 f11 r p _
          · intro r q; rw [View.readAt_full, if_neg k0]
        out := fun _ y => by
          rw [View.read_writes_full, View.read_writes_full, View.readAt_full, View.readCov_full]
          exact pay909_apply _ _ y
        h_new := fun _ hj r q => by
          rw [View.read_writes_full, View.readAt_full, View.readCov_full]
          exact (read_block arg13 f13 (k0_off4_eq i) (k0_off4_inb i h3) _ r q _).trans (pay910_apply _ _ _)
        h_old := fun r q h => read_block_old arg13 f13 (k0_off4_eq i) (k0_off4_inb i h3) _ r q (h k3)
        s_new := fun _ r l => by
          rw [View.read_writes_full, View.read_writes_full, View.readAt_full, View.readCov_full, if_neg j0]
          refine (pay913_apply _ _ _ _).trans (congrArg₂ (fun (a b : EReal) => a + b) (by rw [View.readAt_full]) (pay911_apply _ _ r l))
        s_old := fun h => absurd k3 h }
  | B4 h1 h2 h3 h4 h5 h6 =>
    refine tr4 (fun l8 l12 l13 l14 => Step (i 0).val (i 1).val (arg2.view.read (Elt Ideal) f2) (arg3.view.read (Elt Ideal) f3) (arg4.view.read (Elt Ideal) f4)
      (arg5.view.read (Elt Ideal) f5) (arg6.view.read (Elt Ideal) f6) (arg8.view.read (Elt Ideal) (arg8.view.writes (Elt Ideal) arg8.view.junk l8))
      (arg11.view.read (Elt Ideal) f11) (arg11.view.read (Elt Ideal) f11) (arg12.view.read (Elt Ideal) f12) (arg12.view.read (Elt Ideal) (arg12.view.writes (Elt Ideal) arg12.view.junk l12))
      (arg13.view.read (Elt Ideal) f13) (arg13.view.read (Elt Ideal) (arg13.view.writes (Elt Ideal) f13 l13)) (arg14.view.read (Elt Ideal) f14) (arg14.view.read (Elt Ideal) (arg14.view.writes (Elt Ideal) arg14.view.junk l14))) (lists_B4 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14) ?_
    beta_reduce
    have j0 : ¬ (i 0).val = 0 := fun h => h1 ((coord_cond1 i).mpr h)
    have k0 : ¬ (i 1).val = 0 := fun h => h2 ((coord_cond2 i).mpr h)
    have k3 : (i 1).val = 3 := (coord_cond3 i).mp h3
    exact
      { xb_new := fun h => absurd h j0
        xb_old := fun r q hq => rfl
        acc := fun hk r q => by
          refine acc_step (i 1).val hk arg4 arg5 arg12 f4 f5 _ _ _ _ _ _ _ (arg12.view.read (Elt Ideal) f12) _ ?_ ?_ r q
          · intro r p; exact x_cols i arg11 f11 r p _
          · intro r q; rw [View.readAt_full, if_neg k0]
        out := fun _ y => by
          rw [View.read_writes_full, View.read_writes_full, View.readAt_full, View.readCov_full]
          exact pay909_apply _ _ y
        h_new := fun _ hj r q => by
          rw [View.read_writes_full, View.readAt_full, View.readCov_full]
          exact (read_block arg13 f13 (k0_off4_eq i) (k0_off4_inb i h3) _ r q _).trans (pay910_apply _ _ _)
        h_old := fun r q h => read_block_old arg13 f13 (k0_off4_eq i) (k0_off4_inb i h3) _ r q (h k3)
        s_new := fun _ r l => by
          rw [View.read_writes_full, View.read_writes_full, View.readAt_full, View.readCov_full, if_neg j0]
          refine (pay913_apply _ _ _ _).trans (congrArg₂ (fun (a b : EReal) => a + b) (by rw [View.readAt_full]) (pay911_apply _ _ r l))
        s_old := fun h => absurd k3 h }

end Cert.KernelIdeal.Hand
-- ==== Proof.IValue.lean ====
/-
  THE NUMBERS THE KERNEL IS TO LEAVE, and the statement about its four kept buffers before each point of the grid.
-/
module

public import proofs.«01_k».proof.Proof.ISteps
public import proofs.«01_k».proof.Proof.ILaunch
public import Idealize.ShloMosaic.Lib.Pipeline.FrameBody
public import Idealize.ShloMosaic.Lib.Pipeline.ValueKit
public import Idealize.ShloMosaic.Lib.Pointwise
public import Idealize.ShloMosaic.Lib.VecWindow
public import Idealize.ShloMosaic.Lib.Tactic

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic

open Idealize.ShloMosaic.Pipeline (RDat Dat)

variable (m : (ℓ : Loc nD τ sig) → Buf (Elt Ideal) ℓ)

/-- The arrays as the grid finds them: the codes and scale bytes of the activations, -/
def XC (c : Dev nD) : S256x16384.Idx → EReal := V m c main_v0
def XS (c : Dev nD) : S256x512.Idx → BitVec 8 := V m c main_v1
/-- the codes and scale bytes of the weights, -/
def WC (c : Dev nD) : S16384x7168.Idx → EReal := V m c main_arg2
def WS (c : Dev nD) : S512x7168.Idx → BitVec 8 := V m c main_arg3
/-- the residual and the gains. -/
def RES (c : Dev nD) : S256x7168.Idx → EReal := V m c main_v2
def GM (c : Dev nD) : S1x7168.Idx → EReal := V m c main_v3

/-- An activation: its code times its block's scale (columns counted by naturals, zero beyond the array). -/
def XB (c : Dev nD) (r : Fin 256) (q : ℕ) : EReal :=
  if h : q < 16384 then XC m c (ix2 r ⟨q, h⟩) * sc (XS m c (ix2 r ⟨q / 32, by omega⟩)) else 0
/-- A weight: its code times its block's scale. -/
def WB (c : Dev nD) (q n : ℕ) : EReal :=
  if h : q < 16384 ∧ n < 7168 then WC m c (ix2 ⟨q, h.1⟩ ⟨n, h.2⟩) * sc (WS m c (ix2 ⟨q / 32, by omega⟩ ⟨n, h.2⟩)) else 0
/-- The product's sum over one block of the contraction, -/
def part (c : Dev nD) (k : ℕ) (r : Fin 256) (n : ℕ) : EReal := ∑ p : Fin 4096, XB m c r (4096 * k + p.val) * WB m c (4096 * k + p.val) n
/-- over the first `K` blocks, -/
def ACC (c : Dev nD) (K : ℕ) (r : Fin 256) (n : ℕ) : EReal := ∑ k ∈ Finset.range K, part m c k r n
/-- and the residual added to the whole: the first result. -/
def HN (c : Dev nD) (r : Fin 256) (n : ℕ) : EReal :=
  if h : n < 7168 then RES m c (ix2 r ⟨n, h⟩) + ACC m c 4 r n else 0
/-- The squares of the first `J` tiles' columns that fall on one lane. -/
def SQ (c : Dev nD) (J : ℕ) (r : Fin 256) (l : ℕ) : EReal :=
  ∑ b ∈ Finset.range J, ∑ p : Fin 4, HN m c r (512 * b + (128 * p.val + l)) * HN m c r (512 * b + (128 * p.val + l))

/-- Before point `n`. -/
structure Inv (c : Dev nD) (n : ℕ) (xb : S256x16384.Idx → EReal) (a : S256x512.Idx → EReal) (h : S256x7168.Idx → EReal)
    (s : S256x128.Idx → EReal) : Prop where
  /-- the activations scaled so far are in place, -/
  xb : ∀ (r : Fin 256) (q : Fin 16384), q.val < 4096 * n → xb (ix2 r q) = XB m c r q.val
  /-- the accumulator holds the sum over the blocks of the contraction behind, -/
  acc : n % 4 ≠ 0 → ∀ (r : Fin 256) (q : Fin 512), a (ix2 r q) = ACC m c (n % 4) r (512 * (n / 4) + q.val)
  /-- the tiles of `h` behind are kept, -/
  hs : ∀ (r : Fin 256) (q : Fin 7168), q.val < 512 * (n / 4) → h (ix2 r q) = HN m c r q.val
  /-- and so are their squares' sums over the lanes. -/
  ss : 4 ≤ n → ∀ (r : Fin 256) (l : Fin 128), s (ix2 r l) = SQ m c (n / 4) r l.val

theorem coords_val : ∀ t : Fin cfg0.N, (grid0.coords t 0).val = t.val / 4 ∧ (grid0.coords t 1).val = t.val % 4 :=
  (by decide +kernel : ∀ t : Fin grid0.N, (grid0.coords t 0).val = t.val / 4 ∧ (grid0.coords t 1).val = t.val % 4)

/-- The blocks the body finds at point `n`, read off the arrays. -/
structure Blocks (c : Dev nD) (n : ℕ) (x2 : S256x16384.Idx → EReal) (b3 : S256x512.Idx → BitVec 8) (w4 : S4096x512.Idx → EReal)
    (b5 : S128x512.Idx → BitVec 8) (r6 : S256x512.Idx → EReal) : Prop where
  x : ∀ y, x2 y = XC m c y
  xs : ∀ y, b3 y = XS m c y
  w : ∀ (hn : n < 56) (p : Fin 4096) (q : Fin 512), w4 (ix2 p q) = WC m c (ix2 ⟨4096 * (n % 4) + p.val, by omega⟩ ⟨512 * (n / 4) + q.val, by omega⟩)
  ws : ∀ (hn : n < 56) (p : Fin 128) (q : Fin 512), b5 (ix2 p q) = WS m c (ix2 ⟨128 * (n % 4) + p.val, by omega⟩ ⟨512 * (n / 4) + q.val, by omega⟩)
  r : ∀ (hn : n < 56) (p : Fin 256) (q : Fin 512), r6 (ix2 p q) = RES m c (ix2 p ⟨512 * (n / 4) + q.val, by omega⟩)

/-- One point's accumulator, from the statement before it. -/
theorem acc_next {c : Dev nD} {n : ℕ} (hn : n < 56) {x2 b3 w4 b5 r6 o8 xb xb' a a' h h' s s'} (hI : Inv m c n xb a h s)
    (hB : Blocks m c n x2 b3 w4 b5 r6) (hS : Step (n / 4) (n % 4) x2 b3 w4 b5 r6 o8 xb xb' a a' h h' s s')
    (hx : ∀ (r : Fin 256) (q : Fin 16384), q.val < 4096 * (n + 1) → xb' (ix2 r q) = XB m c r q.val) (r : Fin 256) (q : Fin 512) :
    a' (ix2 r q) = ACC m c (n % 4 + 1) r (512 * (n / 4) + q.val) := by
  have hk : n % 4 < 4 := Nat.mod_lt _ (by norm_num)
  rw [hS.acc hk r q, ACC, Finset.sum_range_succ]
  refine congrArg₂ (fun (x y : EReal) => x + y) ?_ (Finset.sum_congr rfl fun p _ => ?_)
  · by_cases h0 : n % 4 = 0
    · rw [if_pos h0, h0]; rfl
    · rw [if_neg h0, hI.acc h0]; rfl
  · rw [hx r _ (by show 4096 * (n % 4) + p.val < _; omega), hB.w hn, hB.ws hn]
    refine congrArg₂ (fun (x y : EReal) => x * y) rfl ?_
    unfold WB
    rw [dif_pos ⟨by omega, by omega⟩]
    refine congrArg₂ (fun (x y : EReal) => x * y) rfl (congrArg (fun i => sc (WS m c i)) ?_)
    have e : 128 * (n % 4) + p.val / 32 = (4096 * (n % 4) + p.val) / 32 := by omega
    simp only [e]

/-- ONE POINT CARRIES THE STATEMENT ON, and the tile it writes back is the first result's. -/
theorem inv_next {c : Dev nD} {n : ℕ} (hn : n < 56) {x2 b3 w4 b5 r6 o8 xb xb' a a' h h' s s'} (hI : Inv m c n xb a h s)
    (hB : Blocks m c n x2 b3 w4 b5 r6) (hS : Step (n / 4) (n % 4) x2 b3 w4 b5 r6 o8 xb xb' a a' h h' s s') :
    Inv m c (n + 1) xb' a' h' s' ∧ (n % 4 = 3 → ∀ (r : Fin 256) (q : Fin 512), o8 (ix2 r q) = HN m c r (512 * (n / 4) + q.val)) := by
  have hx : ∀ (r : Fin 256) (q : Fin 16384), q.val < 4096 * (n + 1) → xb' (ix2 r q) = XB m c r q.val := fun r q hq => by
    by_cases hj : n / 4 = 0 ∧ 4096 * (n % 4) ≤ q.val ∧ q.val < 4096 * (n % 4) + 4096
    · rw [hS.xb_new hj.1 r q hj.2.1 hj.2.2, hB.x, hB.xs]
      unfold XB
      rw [dif_pos q.isLt]
    · rw [hS.xb_old r q (by omega)]
      exact hI.xb r q (by omega)
  have ha := acc_next m hn hI hB hS hx
  have ho : n % 4 = 3 → ∀ (r : Fin 256) (q : Fin 512), r6 (ix2 r q) + a' (ix2 r q) = HN m c r (512 * (n / 4) + q.val) := fun hk r q => by
    rw [ha r q, hB.r hn, hk]
    unfold HN
    rw [dif_pos (by omega)]
  refine ⟨⟨hx, fun hk r q => ?_, fun r q hq => ?_, fun h4 r l => ?_⟩, fun hk r q => (hS.out hk _).trans (ho hk r q)⟩
  · have hk' : n % 4 ≠ 3 := by omega
    have e1 : (n + 1) % 4 = n % 4 + 1 := by omega
    have e2 : (n + 1) / 4 = n / 4 := by omega
    rw [ha r q, e1, e2]
  · by_cases hk : n % 4 = 3 ∧ 512 * (n / 4) ≤ q.val
    · have hj : n / 4 < 14 := by omega
      have hq2 : q.val - 512 * (n / 4) < 512 := by omega
      have e : q = (⟨512 * (n / 4) + (⟨q.val - 512 * (n / 4), hq2⟩ : Fin 512).val, by show 512 * (n / 4) + (q.val - 512 * (n / 4)) < _; omega⟩ : Fin 7168) :=
        Fin.ext (by show q.val = 512 * (n / 4) + (q.val - 512 * (n / 4)); omega)
      have e2 := hS.h_new hk.1 hj r ⟨q.val - 512 * (n / 4), hq2⟩
      rw [← e] at e2
      rw [e2, ho hk.1]
      exact congrArg (HN m c r) (by show 512 * (n / 4) + (q.val - 512 * (n / 4)) = q.val; omega)
    · rw [hS.h_old r q (by omega)]
      exact hI.hs r q (by omega)
  · by_cases hk : n % 4 = 3
    · have e1 : (n + 1) / 4 = n / 4 + 1 := by omega
      rw [hS.s_new hk r l, e1, SQ, Finset.sum_range_succ]
      refine congrArg₂ (fun (x y : EReal) => x + y) ?_ (Finset.sum_congr rfl fun p _ => by rw [ho hk])
      by_cases h0 : n / 4 = 0
      · rw [if_pos h0, h0]; rfl
      · rw [if_neg h0, hI.ss (by omega)]; rfl
    · have e1 : (n + 1) / 4 = n / 4 := by omega
      rw [hS.s_old hk, e1]
      exact hI.ss (by omega) r l

end Cert.KernelIdeal.Hand
-- ==== Proof.IFinds.lean ====
/-
  THE BLOCKS THE BODY FINDS are the arrays' blocks, whatever the pipeline fetched when.
-/
module

public import proofs.«01_k».proof.Proof.IValue
public import Idealize.ShloMosaic.Lib.Pointwise
public import Idealize.ShloMosaic.Lib.VecWindow
public import Idealize.ShloMosaic.Lib.Tactic

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic

open Idealize.ShloMosaic.Pipeline (RDat Dat)

variable {m : (ℓ : Loc nD τ sig) → Buf (Elt Ideal) ℓ}

theorem idx0 : ∀ t : Fin cfg0.N, win0_0.index t = ![0, 0] := (by decide +kernel : ∀ t : Fin grid0.N, win0_0.index t = ![0, 0])
theorem idx1 : ∀ t : Fin cfg0.N, win0_1.index t = ![0, 0] := (by decide +kernel : ∀ t : Fin grid0.N, win0_1.index t = ![0, 0])
theorem idx2 : ∀ t : Fin cfg0.N, win0_2.index t = ![t.val % 4, t.val / 4] := (by decide +kernel : ∀ t : Fin grid0.N, win0_2.index t = ![t.val % 4, t.val / 4])
theorem idx3 : ∀ t : Fin cfg0.N, win0_3.index t = ![t.val % 4, t.val / 4] := (by decide +kernel : ∀ t : Fin grid0.N, win0_3.index t = ![t.val % 4, t.val / 4])
theorem idx4 : ∀ t : Fin cfg0.N, win0_4.index t = ![0, t.val / 4] := (by decide +kernel : ∀ t : Fin grid0.N, win0_4.index t = ![0, t.val / 4])
theorem idx5 : ∀ t : Fin cfg0.N, win0_5.index t = ![0, 0] := (by decide +kernel : ∀ t : Fin grid0.N, win0_5.index t = ![0, 0])
theorem idx6 : ∀ t : Fin cfg0.N, win0_6.index t = ![0, t.val / 4] := (by decide +kernel : ∀ t : Fin grid0.N, win0_6.index t = ![0, t.val / 4])

/-- Each window's block read at an index. -/
theorem iblk0 (c : Dev nD) (t : Fin cfg0.N) (p : Fin 256) (q : Fin 16384) : iblk m c 0 t (ix2 p q) = XC m c (ix2 p q) := by
  unfold XC; blk_ext [iblk, idx0 t]
theorem iblk1 (c : Dev nD) (t : Fin cfg0.N) (p : Fin 256) (q : Fin 512) : iblk m c 1 t (ix2 p q) = XS m c (ix2 p q) := by
  unfold XS; blk_ext [iblk, idx1 t]
theorem iblk2 (c : Dev nD) (t : Fin cfg0.N) (p : Fin 4096) (q : Fin 512) (h1 h2) :
    iblk m c 2 t (ix2 p q) = WC m c (ix2 ⟨4096 * (t.val % 4) + p.val, h1⟩ ⟨512 * (t.val / 4) + q.val, h2⟩) := by
  unfold WC; blk_ext [iblk, idx2 t]
theorem iblk3 (c : Dev nD) (t : Fin cfg0.N) (p : Fin 128) (q : Fin 512) (h1 h2) :
    iblk m c 3 t (ix2 p q) = WS m c (ix2 ⟨128 * (t.val % 4) + p.val, h1⟩ ⟨512 * (t.val / 4) + q.val, h2⟩) := by
  unfold WS; blk_ext [iblk, idx3 t]
theorem iblk4 (c : Dev nD) (t : Fin cfg0.N) (p : Fin 256) (q : Fin 512) (h2) :
    iblk m c 4 t (ix2 p q) = RES m c (ix2 p ⟨512 * (t.val / 4) + q.val, h2⟩) := by
  unfold RES; blk_ext [iblk, idx4 t]
theorem iblk5 (c : Dev nD) (t : Fin cfg0.N) (q : Fin 7168) : iblk m c 5 t (ix2 0 q) = GM m c (ix2 0 q) := by
  unfold GM; blk_ext [iblk, idx5 t]

/-- What the body leaves in a window's buffer: an input as found; the first result's tile at the last block of the contraction; of the two
    other results what `Q7` and `Q8` say, at the last point. -/
def aft (Q7 : Dev nD → (S256x7168.Idx → EReal) → Prop) (Q8 : Dev nD → (S256x224.Idx → BitVec 8) → Prop) : AftT Ideal := fun c w t => match w with
  | ⟨0, _⟩ | ⟨1, _⟩ | ⟨2, _⟩ | ⟨3, _⟩ | ⟨4, _⟩ | ⟨5, _⟩ => fun Y X => X = Y
  | ⟨6, _⟩ => fun _ X => t.val % 4 = 3 → ∀ (r : Fin 256) (q : Fin 512), (X : S256x512.Idx → EReal) (ix2 r q) = HN m c r (512 * (t.val / 4) + q.val)
  | ⟨7, _⟩ => fun _ X => t.val = 55 → Q7 c X
  | ⟨8, _⟩ => fun _ X => t.val = 55 → Q8 c X

/-- The statement of the kept buffers. -/
def inv : InvT Ideal := fun c n a b d e => Inv m c n a b d e

variable {I : InvT Ideal} {Q7 : Dev nD → (S256x7168.Idx → EReal) → Prop} {Q8 : Dev nD → (S256x224.Idx → BitVec 8) → Prop}

theorem found0 {c : Dev nD} {t : Fin cfg0.N} {Y} (h : (rdat m I (aft (m := m) Q7 Q8) c).Finds 0 t Y) : Y = iblk m c 0 t := by
  obtain ⟨d, rfl⟩ := RDat.finds_in_eq_fetched _ 0 rfl (fun _ _ _ => rfl) (fun _ _ _ h => h) t Y h
  rfl
theorem found1 {c : Dev nD} {t : Fin cfg0.N} {Y} (h : (rdat m I (aft (m := m) Q7 Q8) c).Finds 1 t Y) : Y = iblk m c 1 t := by
  obtain ⟨d, rfl⟩ := RDat.finds_in_eq_fetched _ 1 rfl (fun _ _ _ => rfl) (fun _ _ _ h => h) t Y h
  rfl
theorem found2 {c : Dev nD} {t : Fin cfg0.N} {Y} (h : (rdat m I (aft (m := m) Q7 Q8) c).Finds 2 t Y) : Y = iblk m c 2 t := by
  obtain ⟨d, rfl⟩ := RDat.finds_in_eq_fetched _ 2 rfl (fun _ _ _ => rfl) (fun _ _ _ h => h) t Y h
  rfl
theorem found3 {c : Dev nD} {t : Fin cfg0.N} {Y} (h : (rdat m I (aft (m := m) Q7 Q8) c).Finds 3 t Y) : Y = iblk m c 3 t := by
  obtain ⟨d, rfl⟩ := RDat.finds_in_eq_fetched _ 3 rfl (fun _ _ _ => rfl) (fun _ _ _ h => h) t Y h
  rfl
theorem found4 {c : Dev nD} {t : Fin cfg0.N} {Y} (h : (rdat m I (aft (m := m) Q7 Q8) c).Finds 4 t Y) : Y = iblk m c 4 t := by
  obtain ⟨d, rfl⟩ := RDat.finds_in_eq_fetched _ 4 rfl (fun _ _ _ => rfl) (fun _ _ _ h => h) t Y h
  rfl
theorem found5 {c : Dev nD} {t : Fin cfg0.N} {Y} (h : (rdat m I (aft (m := m) Q7 Q8) c).Finds 5 t Y) : Y = iblk m c 5 t := by
  obtain ⟨d, rfl⟩ := RDat.finds_in_eq_fetched _ 5 rfl (fun _ _ _ => rfl) (fun _ _ _ h => h) t Y h
  rfl

end Cert.KernelIdeal.Hand
-- ==== Proof.ICarry.lean ====
/-
  THE GRID CARRIES THE STATEMENT ON, and what the arrays hold in the end.
-/
module

public import proofs.«01_k».proof.Proof.IFinds
public import Idealize.ShloMosaic.Lib.Pipeline.Covers
public import Idealize.ShloMosaic.Lib.Pointwise
public import Idealize.ShloMosaic.Lib.VecWindow
public import Idealize.ShloMosaic.Lib.Tactic

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic

open Idealize.ShloMosaic.Pipeline (RDat Dat)
open Idealize.SL Idealize.SL.RA Idealize.SL.BI Idealize.SL.Sem

variable {m : (ℓ : Loc nD τ sig) → Buf (Elt Ideal) ℓ} {Q7 : Dev nD → (S256x7168.Idx → EReal) → Prop} {Q8 : Dev nD → (S256x224.Idx → BitVec 8) → Prop}

/-- What is asked of the last point's quantisation. -/
def Quant (m : (ℓ : Loc nD τ sig) → Buf (Elt Ideal) ℓ) (Q7 : Dev nD → (S256x7168.Idx → EReal) → Prop) (Q8 : Dev nD → (S256x224.Idx → BitVec 8) → Prop) : Prop :=
  ∀ (c : Dev nD) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole)
    (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty)
    (g8 : BufTy.Contents (Elt Ideal) arg8.view.ty) (g9 : BufTy.Contents (Elt Ideal) arg9.view.ty) (g10 : BufTy.Contents (Elt Ideal) arg10.view.ty) (g11 : BufTy.Contents (Elt Ideal) arg11.view.ty) (g12 : BufTy.Contents (Elt Ideal) arg12.view.ty) (g13 : BufTy.Contents (Elt Ideal) arg13.view.ty) (g14 : BufTy.Contents (Elt Ideal) arg14.view.ty),
    (i 0).val = 13 → (i 1).val = 3 → Outcome (F := Ideal) c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14 →
    (∀ (r : Fin 256) (q : Fin 7168), arg13.view.read (Elt Ideal) g13 (ix2 r q) = HN m c r q.val) →
    (∀ (r : Fin 256) (l : Fin 128), arg14.view.read (Elt Ideal) g14 (ix2 r l) = SQ m c 14 r l.val) →
    (∀ q : Fin 7168, arg7.view.read (Elt Ideal) f7 (ix2 0 q) = GM m c (ix2 0 q)) →
    Q7 c (arg9.view.read (Elt Ideal) g9) ∧ Q8 c (arg10.view.read (Elt Ideal) g10)

theorem carries (hQ : Quant m Q7 Q8) : Carries m (inv (m := m)) (aft (m := m) Q7 Q8) := by
  intro c t f2 f3 f4 f5 f6 f7 f8 f9 f10 f11 f12 f13 f14 g8 g9 g10 g11 g12 g13 g14 h0 h1 h2 h3 h4 h5 _ _ _ hI hO
  have hS := outcome_step c (grid0.coords t) _ _ _ _ _ _ _ _ _ _ _ _ _ _ _ _ _ _ _ _ _ _ _ _ _ _ f2 f3 f4 f5 f6 f7 f8 f9 f10 f11 f12 f13 f14 g8 g9 g10 g11 g12 g13 g14 hO
  rw [(coords_val t).1, (coords_val t).2] at hS
  have ht : t.val < 56 := t.isLt
  have hB : Blocks m c t.val ((win0_0.stage (cfg0.slots t 0)).view.read (Elt Ideal) f2) ((win0_1.stage (cfg0.slots t 1)).view.read (Elt Ideal) f3)
      ((win0_2.stage (cfg0.slots t 2)).view.read (Elt Ideal) f4) ((win0_3.stage (cfg0.slots t 3)).view.read (Elt Ideal) f5)
      ((win0_4.stage (cfg0.slots t 4)).view.read (Elt Ideal) f6) := by
    refine ⟨fun y => ?_, fun y => ?_, fun hn p q => ?_, fun hn p q => ?_, fun hn p q => ?_⟩
    · rw [eq_ix2 y]; exact (congrFun (found0 h0) _).trans (iblk0 c t _ _)
    · rw [eq_ix2 y]; exact (congrFun (found1 h1) _).trans (iblk1 c t _ _)
    · exact (congrFun (found2 h2) _).trans (iblk2 c t p q _ _)
    · exact (congrFun (found3 h3) _).trans (iblk3 c t p q _ _)
    · exact (congrFun (found4 h4) _).trans (iblk4 c t p q _)
  obtain ⟨hI', h8⟩ := inv_next m ht hI hB hS
  have hq : t.val = 55 → Q7 c ((win0_7.stage (cfg0.slots t 7)).view.read (Elt Ideal) g9) ∧ Q8 c ((win0_8.stage (cfg0.slots t 8)).view.read (Elt Ideal) g10) := fun he => by
    have e14 : (t.val + 1) / 4 = 14 := by omega
    refine hQ c (grid0.coords t) _ _ _ _ _ _ _ _ _ _ _ _ _ _ _ _ _ _ _ _ _ _ _ _ _ _ f2 f3 f4 f5 f6 f7 f8 f9 f10 f11 f12 f13 f14 g8 g9 g10 g11 g12 g13 g14
      (by rw [(coords_val t).1]; omega) (by rw [(coords_val t).2]; omega) hO (fun r q => ?_) (fun r l => ?_) (fun q => ?_)
    · exact hI'.hs r q (by rw [e14]; exact q.isLt)
    · have := hI'.ss (by omega) r l
      rw [e14] at this; exact this
    · exact (congrFun (found5 h5) _).trans (iblk5 c t q)
  exact ⟨hI', rfl, rfl, rfl, rfl, rfl, rfl, h8, fun he => (hq he).1, fun he => (hq he).2⟩

theorem inv_zero (c : Dev nD) (a : S256x16384.Idx → EReal) (b : S256x512.Idx → EReal) (d : S256x7168.Idx → EReal) (e : S256x128.Idx → EReal) :
    Inv m c 0 a b d e :=
  ⟨fun _ _ h => absurd h (by omega), fun h => absurd rfl h, fun _ _ h => absurd h (by omega), fun h => absurd h (by omega)⟩

/-- The last point. -/
def tL : Fin cfg0.N := ⟨55, by show 55 < grid0.N; rw [N_0]; decide⟩

/-- THE ARRAYS IN THE END. -/
theorem arrays {r : PUnit × MemSt nD τ sig (Elt Ideal)}
    (h : RDat.FramePost (cfgs 0) (rdat m (inv (m := m)) (aft (m := m) Q7 Q8)) (V m) r) (c : Dev nD) :
    (r.2.mem ((c.tc : Thread nD τ).loc main_v4_0) = (fun i : S256x7168.Idx => HN m c (i 0) (i 1).val))
      ∧ Q7 c (r.2.mem ((c.tc : Thread nD τ).loc main_v4_1)) ∧ Q8 c (r.2.mem ((c.tc : Thread nD τ).loc main_v4_2)) := by
  obtain ⟨after, hL, hA⟩ := h.exists_exact c
  refine ⟨(hA 6).trans ?_, ?_, ?_⟩
  · refine Dat.arrAt_eq_of_covers _ 6 _ (by decide +kernel) fun t hf y => ?_
    obtain ⟨Y, _, hX⟩ := hL 6 t hf
    have hk : t.val % 4 = 3 := (flush0_6 t).mp hf
    have hX' : ∀ (r : Fin 256) (q : Fin 512), (after 6 t : S256x512.Idx → EReal) (ix2 r q) = HN m c r (512 * (t.val / 4) + q.val) := hX hk
    blk_simp [idx6 t]
    have e0 : ((win0_6.blk t).view.emb y 0) = (y 0 : Fin 256) := Fin.ext (by blk_simp [idx6 t])
    show (after 6 t : S256x512.Idx → EReal) y = _
    refine ((congrArg (after 6 t : S256x512.Idx → EReal) (eq_ix2 y)).trans (hX' (y 0) (y 1))).trans ?_
    rw [e0, mul_comm]
  · obtain ⟨Y, _, hX⟩ := hL 7 (tL) ((flush0_7 _).mpr (by decide))
    have hX' : Q7 c (after 7 tL) := hX rfl
    have e : r.2.mem ((c.tc : Thread nD τ).loc main_v4_1) = (after 7 tL : S256x7168.Idx → EReal) := (hA 7).trans (by
      refine Dat.arrAt_eq_of_after_last _ 7 tL (by decide +kernel) _ fun j => ?_
      blk_simp
      rfl)
    rw [e]; exact hX'
  · obtain ⟨Y, _, hX⟩ := hL 8 (tL) ((flush0_8 _).mpr (by decide))
    have hX' : Q8 c (after 8 tL) := hX rfl
    have e : r.2.mem ((c.tc : Thread nD τ).loc main_v4_2) = (after 8 tL : S256x224.Idx → BitVec 8) := (hA 8).trans (by
      refine Dat.arrAt_eq_of_after_last _ 8 tL (by decide +kernel) _ fun j => ?_
      blk_simp
      rfl)
    rw [e]; exact hX'

end Cert.KernelIdeal.Hand
-- ==== Proof.IQList.lean ====
/-
  THE STORES OF ONE TRIP OF THE QUANTISING LOOP, as one function of the chunk of columns.
-/
module

public import proofs.«01_k».proof.Proof.ICarry
import all proofs.«01_k».proof.Proof.Gen.KernelIdeal.Loops
public import Idealize.ShloMosaic.Lib.Pointwise
public import Idealize.ShloMosaic.Lib.VecWindow
public import Idealize.ShloMosaic.Lib.Tactic

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic

variable {F : FTy → Type} [FloatOps F] [Named F]

/-- The largest of a lane and the 31 lanes before it, by five rotations. -/
def qRoll (v61 : FVec F S32x128 .f32) : FVec F S32x128 .f32 :=
  have v62 : FVec F S32x128 .f32 := dynamicRotate 1 1#32 none v61 rotates_S32x128_d1
  have v63 : FVec F S32x128 .f32 := maximumf v61 v62
  have v64 : FVec F S32x128 .f32 := dynamicRotate 1 2#32 none v63 rotates_S32x128_d1
  have v65 : FVec F S32x128 .f32 := maximumf v63 v64
  have v66 : FVec F S32x128 .f32 := dynamicRotate 1 4#32 none v65 rotates_S32x128_d1
  have v67 : FVec F S32x128 .f32 := maximumf v65 v66
  have v68 : FVec F S32x128 .f32 := dynamicRotate 1 8#32 none v67 rotates_S32x128_d1
  have v69 : FVec F S32x128 .f32 := maximumf v67 v68
  have v70 : FVec F S32x128 .f32 := dynamicRotate 1 16#32 none v69 rotates_S32x128_d1
  maximumf v69 v70

/-- The quotient of the block's largest magnitude, -/
def qQ (v37 : IVec S32x128 32) (v : FVec F S32x128 .f32) : FVec F S32x128 .f32 :=
  k0_pay75 v37 (qRoll (absf v)) 32#32 (k0_pay72 v37) (k0_pay73 v37) (k0_pay74 v37)
/-- whether it is positive and finite, -/
def qOk (v37 : IVec S32x128 32) (v : FVec F S32x128 .f32) : IVec S32x128 1 :=
  k0_pay76 v37 (qRoll (absf v)) 32#32 (k0_pay72 v37) (k0_pay73 v37) (k0_pay74 v37)
/-- the first step of the search for its exponent, -/
def qW (v37 : IVec S32x128 32) (v : FVec F S32x128 .f32) : IVec S32x128 32 :=
  k0_pay77 v37 (qRoll (absf v)) 32#32 (k0_pay72 v37) (k0_pay73 v37) (k0_pay74 v37)
/-- its exponent, -/
def qE (v37 : IVec S32x128 32) (v : FVec F S32x128 .f32) : IVec S32x128 32 :=
  k0_pay81 (qQ v37 v) (qOk v37 v) (k0_pay78 (qQ v37 v) (qW v37 v)) (k0_pay79 (qQ v37 v) (qW v37 v)) (k0_pay80 (qQ v37 v) (qW v37 v))
/-- and the codes. -/
def qNC (v37 : IVec S32x128 32) (v : FVec F S32x128 .f32) : FVec F S32x128 .fp8e4m3 :=
  k0_pay82 v (qQ v37 v) (qOk v37 v) (k0_pay78 (qQ v37 v) (qW v37 v)) (k0_pay79 (qQ v37 v) (qW v37 v)) (k0_pay80 (qQ v37 v) (qW v37 v))

theorem chunk_inb (k : Fin k0_t1_loop.trips) (c : Fin 56) : ∀ a, (![(k0_off6 k) 0, 128 * c.val] : Fin 2 → ℕ) a + S32x128.size a ≤ S256x7168.size a := by
  rw [k0_off6_eq]
  have hk : k.val < 8 := Nat.lt_of_lt_of_le k.isLt k0_t1_abs.2.1
  intro a; fin_cases a
  · show 32 * k.val + 32 ≤ 256; omega
  · show 128 * c.val + 128 ≤ 7168; omega
theorem gain_inb (c : Fin 56) : ∀ a, (![0, 128 * c.val] : Fin 2 → ℕ) a + S1x128.size a ≤ S1x7168.size a := by
  intro a; fin_cases a
  · show 0 + 1 ≤ 1; omega
  · show 128 * c.val + 128 ≤ 7168; omega

/-- The chunk's normalised values. -/
def qV (arg7 : Memref sig .tc .vmem S1x7168 .f32) (arg13 : Memref sig .tc .vmem S256x7168 .bf16) (X7 : BufTy.Contents (Elt F) arg7.view.ty)
    (X13 : BufTy.Contents (Elt F) arg13.view.ty) (r : FVec F S32x1 .f32) (k : Fin k0_t1_loop.trips) (c : Fin 56) : FVec F S32x128 .f32 :=
  k0_pay85 r (arg13.view.readAt (Elt F) (Rect.unit (s := S256x7168) ![(k0_off6 k) 0, 128 * c.val] S32x128.size (chunk_inb k c)).toLoadRect X13)
    (arg7.view.readAt (Elt F) (Rect.unit (s := S1x7168) ![0, 128 * c.val] S1x128.size (gain_inb c)).toLoadRect X7)

/-- The trip's row factors. -/
def qR (i : grid0.Coords) (h6 : k0_cond6 i = 1#1) (arg14 : Memref sig .tc .vmem S256x128 .f32) (X14 : BufTy.Contents (Elt F) arg14.view.ty)
    (k : Fin k0_t1_loop.trips) : FVec F S32x1 .f32 :=
  k0_pay67 (arg14.view.readAt (Elt F) (Rect.unit (s := S256x128) (k0_off5 k) S32x128.size (k0_off5_inb i k h6)).toLoadRect X14)

/-- The store of one chunk's codes. -/
def pieceQ (v37 : IVec S32x128 32) (arg7 : Memref sig .tc .vmem S1x7168 .f32) (arg13 : Memref sig .tc .vmem S256x7168 .bf16) (X7 : BufTy.Contents (Elt F) arg7.view.ty)
    (X13 : BufTy.Contents (Elt F) arg13.view.ty) (r : FVec F S32x1 .f32) (k : Fin k0_t1_loop.trips) (c : Fin 56) : View.Piece (Elt F) S256x7168 .fp8e4m3 :=
  ⟨Rect.unit (s := S256x7168) ![(k0_off6 k) 0, 128 * c.val] S32x128.size (chunk_inb k c), qNC v37 (qV arg7 arg13 X7 X13 r k c)⟩

/-- The chunks, last first. -/
def chunks : List (Fin 56) := [55, 54, 53, 52, 51, 50, 49, 48, 47, 46, 45, 44, 43, 42, 41, 40, 39, 38, 37, 36, 35, 34, 33, 32, 31, 30, 29, 28, 27, 26, 25, 24, 23, 22, 21, 20, 19, 18, 17, 16, 15, 14, 13, 12, 11, 10, 9, 8, 7, 6, 5, 4, 3, 2, 1, 0]

set_option maxHeartbeats 4000000 in
/-- The trip's stores of codes. -/
theorem trip9 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole) (h6 : k0_cond6 i = 1#1) (v37 : IVec S32x128 32)
    (X7 : BufTy.Contents (Elt F) arg7.view.ty) (X13 : BufTy.Contents (Elt F) arg13.view.ty) (X14 : BufTy.Contents (Elt F) arg14.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h6 v37 X7 X13 X14 k).1 = chunks.map (pieceQ v37 arg7 arg13 X7 X13 (qR i h6 arg14 X14 k) k) := by
  unfold trip_k0_t1
  rfl

/-- The lanes. -/
def qLane : IVec S32x128 32 := iota .tc S32x128 32 [1] iota_S32x128_d1_w32

/-- A lane over four, as the floor division is printed. -/
def qFour (v37 : IVec S32x128 32) : IVec S32x128 32 :=
  have v218 : IVec S32x128 32 := divsi v37 (broadcast S32x128 4#32)
  have v221 : IVec S32x128 32 := extui 32 (cmpi .sgt v37 (broadcast S32x128 0#32)) natLt_1_32
  have v224 : IVec S32x128 32 := extui 32 (cmpi .slt v37 (broadcast S32x128 0#32)) natLt_1_32
  have v225 : IVec S32x128 32 := subi v221 v224
  let v230 : BitVec 32 := Scalar.subi (Scalar.extui (Scalar.cmpi .sgt 4#32 0#32)) (Scalar.extui (Scalar.cmpi .slt 4#32 0#32))
  have v232 : IVec S32x128 1 := cmpi .ne v225 (broadcast S32x128 v230)
  have v234 : IVec S32x128 32 := remsi v37 (broadcast S32x128 4#32)
  have v236 : IVec S32x128 1 := cmpi .ne v234 (broadcast S32x128 0#32)
  have v237 : IVec S32x128 1 := andi v232 v236
  select v237 (subi v218 (broadcast S32x128 1#32)) v218

/-- The exponents of chunk `p`'s four blocks put on lanes `4 p`, …, `4 p + 3`. -/
def nsStep (v37 : IVec S32x128 32) (p : ℕ) (prev e : IVec S32x128 32) : IVec S32x128 32 :=
  select (cmpi .eq (qFour v37) (broadcast S32x128 (BitVec.ofNat 32 p)))
    (dynamicGather 1 e (shapeCast S32x128 (shapeCast S32x128x1 (k0_pay83 v37) shapeCasts_S32x128_S32x128x1) shapeCasts_S32x128x1_S32x128)) prev

/-- The exponents of the first 32 chunks' blocks, a lane each, -/
def ns0 (v37 : IVec S32x128 32) (e : Fin 56 → IVec S32x128 32) : IVec S32x128 32 :=
  ([0, 1, 2, 3, 4, 5, 6, 7, 8, 9, 10, 11, 12, 13, 14, 15, 16, 17, 18, 19, 20, 21, 22, 23, 24, 25, 26, 27, 28, 29, 30, 31] : List (Fin 56)).foldl (fun prev c => nsStep v37 c.val prev (e c)) (broadcast S32x128 0#32)
/-- and of the other 24 chunks'. -/
def ns1 (v37 : IVec S32x128 32) (e : Fin 56 → IVec S32x128 32) : IVec S32x128 32 :=
  ([32, 33, 34, 35, 36, 37, 38, 39, 40, 41, 42, 43, 44, 45, 46, 47, 48, 49, 50, 51, 52, 53, 54, 55] : List (Fin 56)).foldl (fun prev c => nsStep v37 (c.val - 32) prev (e c)) (broadcast S32x128 0#32)

/-- The scale bytes of the last 96 blocks. -/
def nsLast (v : IVec S32x128 32) : IVec S32x96 8 :=
  trunci 8 (addi (extractStridedSlice S32x96 ![0, 0] v slices_S32x128_o0_0_S32x96) (broadcast S32x96 127#32)) natLt_8_32

set_option maxHeartbeats 4000000 in
/-- The trip's two stores of scale bytes. -/
theorem trip10 (𝒱 : Variants) (c : Dev nD) (bd : Option 𝒱.V) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole) (h6 : k0_cond6 i = 1#1)
    (X7 : BufTy.Contents (Elt F) arg7.view.ty) (X13 : BufTy.Contents (Elt F) arg13.view.ty) (X14 : BufTy.Contents (Elt F) arg14.view.ty) (k : Fin k0_t1_loop.trips) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 h6 qLane X7 X13 X14 k).2.1
      = [⟨Rect.unit (s := S256x224) (k0_off63 k) S32x96.size (k0_off63_inb i k h6), nsLast (ns1 qLane fun c => qE qLane (qV arg7 arg13 X7 X13 (qR i h6 arg14 X14 k) k c))⟩,
        ⟨Rect.unit (s := S256x224) (k0_off62 k) S32x128.size (k0_off62_inb i k h6), k0_pay1 (ns0 qLane fun c => qE qLane (qV arg7 arg13 X7 X13 (qR i h6 arg14 X14 k) k c))⟩] := by
  unfold trip_k0_t1
  rfl

end Cert.KernelIdeal.Hand
-- ==== Proof.IQPoint.lean ====
/-
  THE QUANTISER AT ONE ELEMENT. The codes and the scale bytes of one trip, read at a row and a lane over the extended
  reals: the block's largest magnitude, the search for the exponent, the codes, and the exponents put four to a chunk.
-/
module

public import proofs.«01_k».proof.Proof.IQList
public import Idealize.ShloMosaic.Lib.Pointwise
public import Idealize.ShloMosaic.Lib.VecWindow
public import Idealize.ShloMosaic.Lib.Tactic

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic

/-- A lane and the lane `s` before it. -/
def rotMax (s : ℕ) (g : Fin 128 → EReal) (l : Fin 128) : EReal := max (g l) (g ⟨(l.val + 128 - s) % 128, Nat.mod_lt _ (by norm_num)⟩)

/-- `g` bounds the `n` lanes ending at each. -/
def Runs (n : ℕ) (h g : Fin 128 → EReal) : Prop :=
  ∀ l x, g l ≤ x ↔ ∀ i < n, h ⟨(l.val + 128 - i) % 128, Nat.mod_lt _ (by norm_num)⟩ ≤ x

theorem Runs.step {n : ℕ} {h g : Fin 128 → EReal} (hn : n ≤ 64) (hg : Runs n h g) : Runs (2 * n) h (rotMax n g) := by
  intro l x
  unfold rotMax
  rw [max_le_iff, hg, hg]
  constructor
  · rintro ⟨h1, h2⟩ i hi
    by_cases hin : i < n
    · exact h1 i hin
    · have := h2 (i - n) (by omega)
      have e : ((l.val + 128 - n) % 128 + 128 - (i - n)) % 128 = (l.val + 128 - i) % 128 := by omega
      simpa only [e] using this
  · intro hh
    refine ⟨fun i hi => hh i (by omega), fun i hi => ?_⟩
    have := hh (i + n) (by omega)
    have e : ((l.val + 128 - n) % 128 + 128 - i) % 128 = (l.val + 128 - (i + n)) % 128 := by omega
    simpa only [e] using this

theorem runs_one (h : Fin 128 → EReal) : Runs 1 h h := by
  intro l x
  constructor
  · intro hl i hi
    have e : (l.val + 128 - i) % 128 = l.val := by omega
    simpa only [e] using hl
  · intro hh
    have := hh 0 (by omega)
    have e : (l.val + 128 - 0) % 128 = l.val := by omega
    simpa only [e] using this

/-- The largest of a block of 32 lanes. -/
def blkMax (g : Fin 128 → EReal) (b : ℕ) (hb : b < 4) : EReal := Finset.univ.sup fun i : Fin 32 => g ⟨32 * b + i.val, by omega⟩

theorem rot1_apply (v : FVec Ideal S32x128 .f32) (r : Fin 32) (l : Fin 128) :
    (maximumf v (dynamicRotate 1 1#32 none v rotates_S32x128_d1) (ix2 r l) : EReal) = rotMax 1 (fun l => v (ix2 r l)) l := by
  pointwise []
  rfl
theorem rot2_apply (v : FVec Ideal S32x128 .f32) (r : Fin 32) (l : Fin 128) :
    (maximumf v (dynamicRotate 1 2#32 none v rotates_S32x128_d1) (ix2 r l) : EReal) = rotMax 2 (fun l => v (ix2 r l)) l := by
  pointwise []
  rfl
theorem rot4_apply (v : FVec Ideal S32x128 .f32) (r : Fin 32) (l : Fin 128) :
    (maximumf v (dynamicRotate 1 4#32 none v rotates_S32x128_d1) (ix2 r l) : EReal) = rotMax 4 (fun l => v (ix2 r l)) l := by
  pointwise []
  rfl
theorem rot8_apply (v : FVec Ideal S32x128 .f32) (r : Fin 32) (l : Fin 128) :
    (maximumf v (dynamicRotate 1 8#32 none v rotates_S32x128_d1) (ix2 r l) : EReal) = rotMax 8 (fun l => v (ix2 r l)) l := by
  pointwise []
  rfl
theorem rot16_apply (v : FVec Ideal S32x128 .f32) (r : Fin 32) (l : Fin 128) :
    (maximumf v (dynamicRotate 1 16#32 none v rotates_S32x128_d1) (ix2 r l) : EReal) = rotMax 16 (fun l => v (ix2 r l)) l := by
  pointwise []
  rfl

theorem qRoll_apply (a : FVec Ideal S32x128 .f32) (r : Fin 32) (l : Fin 128) :
    qRoll a (ix2 r l) = rotMax 16 (rotMax 8 (rotMax 4 (rotMax 2 (rotMax 1 fun l => (a (ix2 r l) : EReal))))) l := by
  unfold qRoll
  refine (rot16_apply _ r l).trans (congrArg (fun g => rotMax 16 g l) (funext fun l => ?_))
  refine (rot8_apply _ r l).trans (congrArg (fun g => rotMax 8 g l) (funext fun l => ?_))
  refine (rot4_apply _ r l).trans (congrArg (fun g => rotMax 4 g l) (funext fun l => ?_))
  refine (rot2_apply _ r l).trans (congrArg (fun g => rotMax 2 g l) (funext fun l => ?_))
  exact rot1_apply _ r l

theorem qRoll_block (a : FVec Ideal S32x128 .f32) (r : Fin 32) (b : ℕ) (hb : b < 4) :
    qRoll a (ix2 r ⟨32 * b + 31, by omega⟩) = blkMax (fun l => a (ix2 r l)) b hb := by
  rw [qRoll_apply]
  have h := ((((runs_one fun l => (a (ix2 r l) : EReal)).step (by norm_num)).step (by norm_num)).step (by norm_num)).step (by norm_num) |>.step (by norm_num)
  refine eq_of_forall_ge_iff fun x => (h _ x).trans ?_
  unfold blkMax
  rw [Finset.sup_le_iff]
  constructor
  · intro hh i _
    have := hh (31 - i.val) (by omega)
    have e : (32 * b + 31 + 128 - (31 - i.val)) % 128 = 32 * b + i.val := by omega
    simpa only [e] using this
  · intro hh i hi
    have := hh ⟨31 - i, by omega⟩ (Finset.mem_univ _)
    have e : (32 * b + 31 + 128 - i) % 128 = 32 * b + (31 - i) := by omega
    simpa only [e] using this

/-- The last lane of a lane's block, as the body computes it. -/
def laneLast (l : BitVec 32) : BitVec 32 :=
  let d := IntOp.divsi ArithUnit.vector l 32#32
  let s := IntOp.subi (BitVec.setWidth 32 (IntOp.cmpi CmpIPredicate.sgt l 0#32)) (BitVec.setWidth 32 (IntOp.cmpi CmpIPredicate.slt l 0#32))
  let w := Scalar.subi (Scalar.extui (Scalar.cmpi CmpIPredicate.sgt 32#32 0#32)) (Scalar.extui (Scalar.cmpi CmpIPredicate.slt 32#32 0#32))
  let q := Scalar.select (IntOp.andi (IntOp.cmpi CmpIPredicate.ne s w) (IntOp.cmpi CmpIPredicate.ne (IntOp.remsi ArithUnit.vector l 32#32) 0#32))
    (IntOp.subi d 1#32) d
  let z := IntOp.subi (IntOp.addi (IntOp.muli q 32#32) 32#32) 1#32
  Scalar.select (IntOp.cmpi CmpIPredicate.slt z 0#32) (IntOp.addi z 128#32) z

theorem laneLast_eq : ∀ l : Fin 128, (laneLast (BitVec.ofNat 32 l.val)).toNat % 128 = 32 * (l.val / 32) + 31 := by decide +kernel

/-- The quotient: a block's largest magnitude times the constant. -/
theorem qQ_apply (v : FVec Ideal S32x128 .f32) (r : Fin 32) (l : Fin 128) :
    (qQ qLane v (ix2 r l) : EReal) = blkMax (fun l => absf v (ix2 r l)) (l.val / 32) (by omega) * Ideal.ofBits .f32 0x3B124925#32 := by
  have e := laneLast_eq l
  refine Eq.trans ?_ (congrArg (fun x : EReal => x * Ideal.ofBits .f32 0x3B124925#32) (qRoll_block (absf v) r (l.val / 32) (by omega)))
  simp only [← e]
  pointwise [qQ, k0_pay75, k0_pay72, k0_pay73, k0_pay74, qLane]
  rfl

/-- One step of the search for the exponent field of `q`. -/
def fstep (q : EReal) (w b : BitVec 32) : BitVec 32 :=
  if Ideal.ofBits .f32 (IntOp.shli ArithUnit.vector (IntOp.ori w b) 23#32) ≤ q then IntOp.ori w b else w

/-- The exponent field. -/
def field (q : EReal) : BitVec 32 :=
  fstep q (fstep q (fstep q (fstep q (fstep q (fstep q (fstep q (fstep q 0#32 128#32) 64#32) 32#32) 16#32) 8#32) 4#32) 2#32) 1#32

/-- The exponent. -/
def expOf (q : EReal) : BitVec 32 :=
  Scalar.select (IntOp.andi (BitVec.ofBool (decide (0 < q))) (BitVec.ofBool (decide (q < Ideal.ofBits .f32 0x7F800000#32)))) (IntOp.subi (field q) 126#32) 0#32

theorem qOk_apply (v : FVec Ideal S32x128 .f32) (r : Fin 32) (l : Fin 128) :
    qOk qLane v (ix2 r l) = IntOp.andi (BitVec.ofBool (decide (0 < (qQ qLane v (ix2 r l) : EReal)))) (BitVec.ofBool (decide ((qQ qLane v (ix2 r l) : EReal) < Ideal.ofBits .f32 0x7F800000#32))) := by
  unfold qOk k0_pay76 qQ
  generalize k0_pay75 (F := Ideal) _ _ _ _ _ _ = q
  pointwise []

theorem qW_apply (v : FVec Ideal S32x128 .f32) (r : Fin 32) (l : Fin 128) :
    qW qLane v (ix2 r l) = fstep (qQ qLane v (ix2 r l)) 0#32 128#32 := by
  unfold qW k0_pay77 qQ
  generalize k0_pay75 (F := Ideal) _ _ _ _ _ _ = q
  pointwise []
  rfl

theorem pay81_apply (q : FVec Ideal S32x128 .f32) (ok : IVec S32x128 1) (w : IVec S32x128 32) (r : Fin 32) (l : Fin 128) :
    k0_pay81 q ok (k0_pay78 q w) (k0_pay79 q w) (k0_pay80 q w) (ix2 r l)
      = Scalar.select (ok (ix2 r l)) (IntOp.subi (fstep (q (ix2 r l)) (fstep (q (ix2 r l)) (fstep (q (ix2 r l)) (fstep (q (ix2 r l)) (fstep (q (ix2 r l)) (fstep (q (ix2 r l)) (fstep (q (ix2 r l)) (w (ix2 r l)) 64#32) 32#32) 16#32) 8#32) 4#32) 2#32) 1#32) 126#32) 0#32 := by
  pointwise [k0_pay81, k0_pay78, k0_pay79, k0_pay80]
  rfl

theorem qE_apply (v : FVec Ideal S32x128 .f32) (r : Fin 32) (l : Fin 128) : qE qLane v (ix2 r l) = expOf (qQ qLane v (ix2 r l)) := by
  unfold qE
  rw [pay81_apply, qOk_apply, qW_apply]
  rfl

theorem qNC_apply (v : FVec Ideal S32x128 .f32) (r : Fin 32) (l : Fin 128) :
    (qNC qLane v (ix2 r l) : EReal) = min (Ideal.ofBits .f32 0x43E00000#32) (max (Ideal.ofBits .f32 0xC3E00000#32)
      ((v (ix2 r l) : EReal) * Ideal.ofBits .f32 (IntOp.shli ArithUnit.vector (IntOp.subi 127#32 (expOf (qQ qLane v (ix2 r l)))) 23#32))) := by
  rw [← qE_apply]
  unfold qNC k0_pay82
  show _ = min _ (max _ (_ * Ideal.ofBits .f32 (IntOp.shli ArithUnit.vector (IntOp.subi 127#32 (k0_pay81 _ _ _ _ _ (ix2 r l))) 23#32)))
  generalize k0_pay81 (F := Ideal) _ _ _ _ _ = e
  pointwise []

/-- A lane over four, as the body computes it, -/
def laneFour (l : BitVec 32) : BitVec 32 :=
  let d := IntOp.divsi ArithUnit.vector l 4#32
  let s := IntOp.subi (BitVec.setWidth 32 (IntOp.cmpi CmpIPredicate.sgt l 0#32)) (BitVec.setWidth 32 (IntOp.cmpi CmpIPredicate.slt l 0#32))
  let w := Scalar.subi (Scalar.extui (Scalar.cmpi CmpIPredicate.sgt 4#32 0#32)) (Scalar.extui (Scalar.cmpi CmpIPredicate.slt 4#32 0#32))
  Scalar.select (IntOp.andi (IntOp.cmpi CmpIPredicate.ne s w) (IntOp.cmpi CmpIPredicate.ne (IntOp.remsi ArithUnit.vector l 4#32) 0#32))
    (IntOp.subi d 1#32) d

theorem laneFour_eq : ∀ l : Fin 128, laneFour (BitVec.ofNat 32 l.val) = BitVec.ofNat 32 (l.val / 4) := by decide +kernel
theorem eq_four : ∀ (p l : Fin 128), IntOp.cmpi CmpIPredicate.eq (BitVec.ofNat 32 (l.val / 4)) (BitVec.ofNat 32 p.val) = BitVec.ofBool (decide (l.val / 4 = p.val)) := by decide +kernel

/-- and the lane its exponent is taken from. -/
def laneFrom (l : BitVec 32) : BitVec 32 :=
  let w := Scalar.select (Scalar.cmpi CmpIPredicate.eq 4#32 0#32) 1#32 4#32
  let d := IntOp.remsi ArithUnit.vector l w
  let q := Scalar.select (IntOp.andi (IntOp.xori (IntOp.cmpi CmpIPredicate.slt d 0#32) (Scalar.cmpi CmpIPredicate.slt w 0#32)) (IntOp.cmpi CmpIPredicate.ne d 0#32))
    (IntOp.addi d w) d
  let z := IntOp.muli q 32#32
  Scalar.select (IntOp.cmpi CmpIPredicate.slt z 0#32) (IntOp.addi z 128#32) z

theorem laneFrom_eq : ∀ l : Fin 128, (laneFrom (BitVec.ofNat 32 l.val)).toNat % 128 = 32 * (l.val % 4) := by decide +kernel

theorem pay83_apply : ∀ (l : Fin 128) (r : Fin 32), (k0_pay83 qLane (ix2 r l)).toNat % 128 = 32 * (l.val % 4) := by
  intro l r
  refine Eq.trans ?_ (laneFrom_eq l)
  pointwise [k0_pay83, qLane]
  rfl

theorem qFour_apply (r : Fin 32) (l : Fin 128) : qFour qLane (ix2 r l) = BitVec.ofNat 32 (l.val / 4) := by
  rw [← laneFour_eq]
  pointwise [qFour, qLane]
  rfl

theorem nsStep_apply (p : ℕ) (hp : p < 128) (prev e : IVec S32x128 32) (r : Fin 32) (l : Fin 128) :
    nsStep qLane p prev e (ix2 r l) = if l.val / 4 = p then e (ix2 r ⟨32 * (l.val % 4), by omega⟩) else prev (ix2 r l) := by
  have e83 := pay83_apply l r
  simp only [← e83]
  have hs : cmpi .eq (qFour qLane) (broadcast S32x128 (BitVec.ofNat 32 p)) (ix2 r l) = BitVec.ofBool (decide (l.val / 4 = p)) := by
    refine Eq.trans ?_ (eq_four ⟨p, hp⟩ l)
    rw [← qFour_apply r l]
    rfl
  unfold nsStep
  generalize k0_pay83 qLane = z at *
  generalize cmpi .eq (qFour qLane) (broadcast S32x128 (BitVec.ofNat 32 p)) = s at *
  pointwise []
  rw [hs]
  by_cases hlp : l.val / 4 = p
  · simp [hlp, Scalar.select]
  · simp [hlp, Scalar.select]

theorem fold_apply (off : ℕ) (e : Fin 56 → IVec S32x128 32) (r : Fin 32) (l : Fin 128) (c0 : Fin 56) :
    ∀ (cs : List (Fin 56)) (init : IVec S32x128 32), (∀ c ∈ cs, l.val / 4 = c.val - off ↔ c = c0) →
      cs.foldl (fun prev c => nsStep qLane (c.val - off) prev (e c)) init (ix2 r l)
        = if c0 ∈ cs then e c0 (ix2 r ⟨32 * (l.val % 4), by omega⟩) else init (ix2 r l)
  | [], init, _ => by simp
  | c :: cs, init, h => by
    rw [List.foldl_cons, fold_apply off e r l c0 cs _ fun d hd => h d (List.mem_cons_of_mem _ hd)]
    have hc := h c List.mem_cons_self
    rw [nsStep_apply _ (by omega)]
    by_cases hm : c0 ∈ cs
    · simp [hm]
    · by_cases hcc : c = c0
      · subst hcc; rw [if_neg hm, if_pos (hc.mpr rfl), if_pos (by simp)]
      · rw [if_neg hm, if_neg (fun h => hcc (hc.mp h)), if_neg (by simp [hm, Ne.symm hcc])]

theorem mem_first : ∀ l : Fin 128, ∀ c ∈ ([0, 1, 2, 3, 4, 5, 6, 7, 8, 9, 10, 11, 12, 13, 14, 15, 16, 17, 18, 19, 20, 21, 22, 23, 24, 25, 26, 27, 28, 29, 30, 31] : List (Fin 56)), l.val / 4 = c.val - 0 ↔ c = ⟨l.val / 4, by omega⟩ := by
  decide +kernel
theorem in_first : ∀ l : Fin 128, (⟨l.val / 4, by omega⟩ : Fin 56) ∈ ([0, 1, 2, 3, 4, 5, 6, 7, 8, 9, 10, 11, 12, 13, 14, 15, 16, 17, 18, 19, 20, 21, 22, 23, 24, 25, 26, 27, 28, 29, 30, 31] : List (Fin 56)) := by
  decide +kernel
theorem mem_last : ∀ l : Fin 96, ∀ c ∈ ([32, 33, 34, 35, 36, 37, 38, 39, 40, 41, 42, 43, 44, 45, 46, 47, 48, 49, 50, 51, 52, 53, 54, 55] : List (Fin 56)), l.val / 4 = c.val - 32 ↔ c = ⟨32 + l.val / 4, by omega⟩ := by
  decide +kernel
theorem in_last : ∀ l : Fin 96, (⟨32 + l.val / 4, by omega⟩ : Fin 56) ∈ ([32, 33, 34, 35, 36, 37, 38, 39, 40, 41, 42, 43, 44, 45, 46, 47, 48, 49, 50, 51, 52, 53, 54, 55] : List (Fin 56)) := by
  decide +kernel

theorem ns0_apply (e : Fin 56 → IVec S32x128 32) (r : Fin 32) (l : Fin 128) :
    ns0 qLane e (ix2 r l) = e ⟨l.val / 4, by omega⟩ (ix2 r ⟨32 * (l.val % 4), by omega⟩) :=
  (fold_apply 0 e r l ⟨l.val / 4, by omega⟩ _ _ (mem_first l)).trans (if_pos (in_first l))

theorem ns1_apply (e : Fin 56 → IVec S32x128 32) (r : Fin 32) (l : Fin 96) :
    ns1 qLane e (ix2 r ⟨l.val, by omega⟩) = e ⟨32 + l.val / 4, by omega⟩ (ix2 r ⟨32 * (l.val % 4), by omega⟩) :=
  (fold_apply 32 e r ⟨l.val, by omega⟩ ⟨32 + l.val / 4, by omega⟩ _ _ (mem_last l)).trans (if_pos (in_last l))

/-- The scale byte of an exponent. -/
def byteOf (e : BitVec 32) : BitVec 8 := BitVec.setWidth 8 (IntOp.addi e 127#32)

theorem pay1_apply (v : IVec S32x128 32) (r : Fin 32) (l : Fin 128) : k0_pay1 v (ix2 r l) = byteOf (v (ix2 r l)) := by
  pointwise [k0_pay1]
  rfl

theorem nsLast_apply (v : IVec S32x128 32) (r : Fin 32) (l : Fin 96) : nsLast v (ix2 r l) = byteOf (v (ix2 r ⟨l.val, by omega⟩)) := by
  pointwise [nsLast]
  rfl

/-- The normalised value. -/
theorem qV_apply (r : FVec Ideal S32x1 .f32) (h : FVec Ideal S32x128 .bf16) (g : FVec Ideal S1x128 .f32) (a : Fin 32) (l : Fin 128) :
    (k0_pay85 r h g (ix2 a l) : EReal) = h (ix2 a l) * r (ix2 a 0) * g (ix2 0 l) := by
  pointwise [k0_pay85]

theorem qR_apply (s : FVec Ideal S32x128 .f32) (a : Fin 32) :
    (k0_pay67 (F := Ideal) s (ix2 a 0) : EReal) = Ideal.rsqrt ((∑ x, s (ix2 a x)) * Named.named (F := Ideal) κ "inv_n" 957499685#32 + Ideal.ofBits .f32 925353388#32) := by
  pointwise [k0_pay67]

end Cert.KernelIdeal.Hand
-- ==== Proof.RPay.lean ====
/-
  THE REFERENCE AT ONE ELEMENT. What the reference's payloads hold at a row and a column, over the extended reals.
-/
module

public import proofs.«01_k».proof.Proof.Gen.ReferenceIdeal.Frame
public import Idealize.ShloMosaic.Lib.Pointwise
public import Idealize.ShloMosaic.Lib.VecWindow
public import Idealize.ShloMosaic.Lib.Tactic

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe Idealize.ShloMosaic.Tactic

/-- Two to a signed integer word. -/
def pow2 (e : BitVec 32) : EReal := FloatOps.exp2 (F := Ideal) (φ := .f32) (FloatOps.sitofp (F := Ideal) FTy.f32 e)
/-- The scale a byte stands for: two to the byte less 127. -/
def dec (b : BitVec 8) : EReal := pow2 (IntOp.subi (BitVec.setWidth 32 b) 127#32)

theorem pay2_apply (x : FVec Ideal S256x16384 .fp8e4m3) (xs : IVec S256x512 8) (w : FVec Ideal S16384x7168 .fp8e4m3) (ws : IVec S512x7168 8)
    (res : FVec Ideal S256x7168 .bf16) (r : Fin 256) (n : Fin 7168) :
    (k0_pay2 (F := Ideal) x xs w ws res (ix2 r n) : EReal)
      = res (ix2 r n) + ∑ k : Fin 16384, (x (ix2 r k) * dec (xs (ix2 r ⟨k.val / 32, by omega⟩))) * (w (ix2 k n) * dec (ws (ix2 ⟨k.val / 32, by omega⟩ n))) := by
  pointwise [k0_pay2]
  rfl

/-- A row's sum of squares. -/
theorem pay4_apply (x : FVec Ideal S256x16384 .fp8e4m3) (xs : IVec S256x512 8) (w : FVec Ideal S16384x7168 .fp8e4m3) (ws : IVec S512x7168 8)
    (res : FVec Ideal S256x7168 .bf16) (r : Fin 256) :
    (k0_pay4 (F := Ideal) x xs w ws res (ix2 r 0) : EReal)
      = ∑ n : Fin 7168, (k0_pay2 (F := Ideal) x xs w ws res (ix2 r n) : EReal) * (k0_pay2 (F := Ideal) x xs w ws res (ix2 r n) : EReal) := by
  unfold k0_pay4 k0_pay3
  generalize k0_pay2 (F := Ideal) _ _ _ _ _ = h
  pointwise []

/-- The normalised value. -/
theorem pay6_apply (h : FVec Ideal S256x7168 .f32) (s : FVec Ideal S256x1 .f32) (g : FVec Ideal S1x7168 .f32) (r : Fin 256) (b : Fin 224) (i : Fin 32) :
    (k0_pay6 (F := Ideal) h s (k0_pay5 (F := Ideal)) g (ix3 r b i) : EReal)
      = h (ix2 r ⟨32 * b.val + i.val, by omega⟩) * Ideal.rsqrt (Ideal.div (s (ix2 r 0)) (Ideal.ofBits .f32 1172307968#32) + Ideal.ofBits .f32 925353388#32)
        * g (ix2 0 ⟨32 * b.val + i.val, by omega⟩) := by
  have e : (⟨32 * b.val + i.val, by omega⟩ : Fin 7168) = ⟨b.val * 32 + i.val, by omega⟩ := Fin.ext (by show _ = _; dsimp only; omega)
  rw [e]
  pointwise [k0_pay6, k0_pay5]

/-- A block's largest magnitude, -/
def amax (v : Fin 32 → EReal) : EReal := Finset.univ.sup fun i => max (v i) (-v i)
/-- the quotient's exponent by counting, from the quotient, -/
def countOf (q : EReal) : BitVec 32 :=
  Finset.univ.fold IntOp.addi (0#32) (fun x : Fin 254 => BitVec.setWidth 32 (BitVec.ofBool (decide (pow2 (IntOp.subi (BitVec.ofNat 32 x.val) 126#32) ≤ q))))
/-- and from the magnitude. -/
def expR (a : EReal) : BitVec 32 := if a = 0 then 0#32 else IntOp.subi (countOf (a * Ideal.ofBits .f32 0x3B124925#32)) 126#32

theorem fold_amax (v : Fin 32 → EReal) :
    Finset.fold max (Ideal.ofBits FTy.f32 4286578688#32) (fun x => max (v x) (-v x)) Finset.univ = amax v := by
  have e : Ideal.ofBits FTy.f32 4286578688#32 = ⊥ := by simp [Ideal.ofBits, Ideal.ieee]
  rw [e]
  rfl

theorem pay7_apply (h : FVec Ideal S256x7168 .f32) (s t : FVec Ideal S256x1 .f32) (g : FVec Ideal S1x7168 .f32) (r : Fin 256) (b : Fin 224) :
    k0_pay7 (F := Ideal) h s t g (ix3 r b 0) = expR (amax fun i => k0_pay6 (F := Ideal) h s t g (ix3 r b i)) := by
  rw [← fold_amax]
  unfold k0_pay7
  generalize k0_pay6 (F := Ideal) _ _ _ _ = v
  pointwise []
  rfl

theorem pay8_apply (h : FVec Ideal S256x7168 .f32) (s t : FVec Ideal S256x1 .f32) (g : FVec Ideal S1x7168 .f32) (r : Fin 256) (n : Fin 7168) :
    (k0_pay8 (F := Ideal) h s t g (ix2 r n) : EReal)
      = min (Ideal.ofBits .f32 0x43E00000#32) (max (Ideal.ofBits .f32 0xC3E00000#32)
          ((k0_pay6 (F := Ideal) h s t g (ix3 r ⟨n.val / 32, by omega⟩ ⟨n.val % 32, by omega⟩) : EReal)
            * pow2 (IntOp.subi 0#32 (k0_pay7 (F := Ideal) h s t g (ix3 r ⟨n.val / 32, by omega⟩ 0))))) := by
  unfold k0_pay8
  generalize k0_pay6 (F := Ideal) _ _ _ _ = v
  generalize k0_pay7 (F := Ideal) _ _ _ _ = v
  pointwise []
  rfl

theorem pay1_apply (e : IVec S256x224x1 32) (r : Fin 256) (b : Fin 224) :
    k0_pay1 e (ix2 r b) = BitVec.setWidth 8 (IntOp.addi (e (ix3 r b 0)) 127#32) := by
  pointwise [k0_pay1]

end Cert.ReferenceIdeal.Hand
-- ==== Proof.QMath.lean ====
/-
  THE QUANTISER'S ARITHMETIC. The search for an exponent finds what counting finds, and the power of two put together from
  the exponent's bits is the one computed.
-/
module

public import proofs.«01_k».proof.Proof.IQPoint
public import proofs.«01_k».proof.Proof.RPay

@[expose] public section

set_option maxRecDepth 16384
set_option maxHeartbeats 400000

noncomputable section

namespace Cert.Quantise

open Idealize.ShloMosaic
open Cert.KernelIdeal.Hand (fstep field expOf sc byteOf)
open Cert.ReferenceIdeal.Hand (pow2 dec countOf expR amax)

/-- The number whose exponent field is `f` and whose other bits are zero. -/
def val (f : ℕ) : EReal := Ideal.ofBits .f32 (BitVec.ofNat 32 f <<< 23)

theorem bits_val : ∀ f : Fin 256, ((BitVec.ofNat 32 f.val <<< 23).extractLsb' 31 1 == 1#1) = false
    ∧ ((BitVec.ofNat 32 f.val <<< 23).extractLsb' 23 8).toNat = f.val ∧ ((BitVec.ofNat 32 f.val <<< 23).extractLsb' 0 23).toNat = 0 := by decide +kernel

theorem val_eq (f : ℕ) (h1 : 1 ≤ f) (h2 : f ≤ 254) : val f = (((2 : ℝ) ^ ((f : ℤ) - 127) : ℝ) : EReal) := by
  obtain ⟨b1, b2, b3⟩ := bits_val ⟨f, by omega⟩
  simp only at b1 b2 b3
  unfold val
  simp only [Ideal.ofBits, Ideal.ieee]
  norm_num only
  rw [b1, b2, b3]
  rw [if_neg (by omega), if_neg (by omega)]
  refine congrArg _ ?_
  have e : ((f : ℤ) - 127) = 23 + ((f : ℤ) - 127 - 23) := by ring
  rw [e, zpow_add₀ (by norm_num : (2 : ℝ) ≠ 0)]
  norm_num

theorem val_zero : val 0 = 0 := by
  simp [val]

theorem val_top : val 255 = ⊤ := by
  obtain ⟨b1, b2, b3⟩ := bits_val 255
  simp only [Fin.isValue, show ((255 : Fin 256) : ℕ) = 255 from rfl] at b1 b2 b3
  unfold val
  simp only [Ideal.ofBits, Ideal.ieee]
  norm_num only
  rw [b1, b2, b3]
  simp

theorem val_mono {f g : ℕ} (h : f ≤ g) (hg : g < 256) : val f ≤ val g := by
  rcases Nat.eq_zero_or_pos f with rfl | hf
  · rw [val_zero]
    rcases Nat.eq_zero_or_pos g with rfl | hg0
    · rw [val_zero]
    · by_cases hg2 : g = 255
      · subst hg2; rw [val_top]; exact le_top
      · rw [val_eq g (by omega) (by omega)]
        exact EReal.coe_nonneg.mpr (by positivity)
  · by_cases hg2 : g = 255
    · subst hg2; rw [val_top]; exact le_top
    · rw [val_eq f (by omega) (by omega), val_eq g (by omega) (by omega)]
      exact EReal.coe_le_coe_iff.mpr (zpow_le_zpow_right₀ (by norm_num) (by omega))

theorem pow2_eq (e : BitVec 32) : pow2 e = (((2 : ℝ) ^ e.toInt : ℝ) : EReal) := by
  show Ideal.exp2 ((e.toInt : ℝ) : EReal) = _
  rw [Ideal.exp2_coe]
  congr 1
  exact Real.rpow_intCast 2 e.toInt

theorem shl_eq (w : BitVec 32) : IntOp.shli ArithUnit.vector w 23#32 = w <<< 23 := by
  rfl

theorem ori_eq : ∀ (j : Fin 8) (w : Fin 256), w.val % 2 ^ (j.val + 1) = 0 →
    IntOp.ori (BitVec.ofNat 32 w.val) (BitVec.ofNat 32 (2 ^ j.val)) = BitVec.ofNat 32 (w.val + 2 ^ j.val) := by decide +kernel

/-- The search so far: the largest field with the lower bits zero. -/
structure Found (q : EReal) (j w : ℕ) : Prop where
  lt : w < 256
  mod : w % 2 ^ j = 0
  le : val w ≤ q
  max : ∀ n, w + 2 ^ j ≤ n → n < 256 → ¬ val n ≤ q

theorem found_step {q : EReal} (j : Fin 8) {w : ℕ} (h : Found q (j.val + 1) w) :
    ∃ w', fstep q (BitVec.ofNat 32 w) (BitVec.ofNat 32 (2 ^ j.val)) = BitVec.ofNat 32 w' ∧ Found q j.val w' := by
  have hlt := h.lt
  have hm := h.mod
  have e := ori_eq j ⟨w, h.lt⟩ h.mod
  have hb : w + 2 ^ j.val < 256 := by
    obtain ⟨j, hj⟩ := j
    interval_cases j <;> simp at hm ⊢ <;> omega
  have hm' : w % 2 ^ j.val = 0 := by
    obtain ⟨j, hj⟩ := j
    interval_cases j <;> simp at hm ⊢ <;> omega
  have hp : 2 ^ (j.val + 1) = 2 ^ j.val + 2 ^ j.val := by rw [pow_succ]; ring
  unfold fstep
  simp only at e
  rw [e, shl_eq]
  by_cases hc : val (w + 2 ^ j.val) ≤ q
  · refine ⟨w + 2 ^ j.val, if_pos hc, hb, by rw [Nat.add_mod_right]; exact hm', hc, fun n hn hn2 => h.max n (by omega) hn2⟩
  · exact ⟨w, if_neg hc, h.lt, hm', h.le, fun n hn hn2 hq => hc ((val_mono hn hn2).trans hq)⟩

theorem field_found {q : EReal} (hq : 0 ≤ q) : ∃ w, field q = BitVec.ofNat 32 w ∧ Found q 0 w := by
  have h0 : Found q 8 0 := ⟨by norm_num, by norm_num, by rw [val_zero]; exact hq, fun n hn hn2 => by omega⟩
  obtain ⟨w7, e7, h7⟩ := found_step 7 h0
  obtain ⟨w6, e6, h6⟩ := found_step 6 h7
  obtain ⟨w5, e5, h5⟩ := found_step 5 h6
  obtain ⟨w4, e4, h4⟩ := found_step 4 h5
  obtain ⟨w3, e3, h3⟩ := found_step 3 h4
  obtain ⟨w2, e2, h2⟩ := found_step 2 h3
  obtain ⟨w1, e1, h1⟩ := found_step 1 h2
  obtain ⟨w0, e0, h0⟩ := found_step 0 h1
  refine ⟨w0, ?_, h0⟩
  rw [← e0, ← e1, ← e2, ← e3, ← e4, ← e5, ← e6, ← e7]
  rfl

theorem sub126 : ∀ i : Fin 254, (IntOp.subi (BitVec.ofNat 32 i.val) 126#32).toInt = (i.val : ℤ) - 126 := by decide +kernel

theorem pow2_count (i : Fin 254) : pow2 (IntOp.subi (BitVec.ofNat 32 i.val) 126#32) = val (i.val + 1) := by
  rw [pow2_eq, sub126, val_eq _ (by omega) (by omega)]
  congr 2
  push_cast
  ring

theorem fold_count {ι : Type*} [DecidableEq ι] (s : Finset ι) (p : ι → Prop) [DecidablePred p] :
    s.fold IntOp.addi (0#32) (fun x => BitVec.setWidth 32 (BitVec.ofBool (decide (p x)))) = BitVec.ofNat 32 (s.filter p).card := by
  induction s using Finset.induction_on with
  | empty => simp
  | insert a s ha ih =>
    rw [Finset.fold_insert ha, ih, Finset.filter_insert]
    by_cases h : p a
    · rw [if_pos h, Finset.card_insert_of_notMem (by simp [ha])]
      simp only [h, decide_true]
      show 1#32 + BitVec.ofNat 32 _ = _
      rw [Nat.add_comm, BitVec.ofNat_add]
    · rw [if_neg h]
      simp only [h, decide_false]
      show 0#32 + BitVec.ofNat 32 _ = _
      simp

theorem count_found {q : EReal} {w : ℕ} (hw : Found q 0 w) (h : w ≤ 254) : countOf q = BitVec.ofNat 32 w := by
  unfold countOf
  rw [fold_count]
  congr 1
  have e : (Finset.univ.filter fun x : Fin 254 => pow2 (IntOp.subi (BitVec.ofNat 32 x.val) 126#32) ≤ q) = Finset.univ.filter fun x : Fin 254 => x.val < w := by
    refine Finset.filter_congr fun x _ => ?_
    rw [pow2_count]
    constructor
    · intro hx
      by_contra hc
      exact hw.max (x.val + 1) (by simp; omega) (by omega) hx
    · intro hx
      exact (val_mono (by omega) hw.lt).trans hw.le
  rw [e]
  rw [Fin.card_filter_val_lt]
  omega

/-- The constant of the quotient. -/
abbrev C : EReal := Ideal.ofBits .f32 0x3B124925#32

theorem C_eq : C = (((9586981 : ℝ) * (2 : ℝ) ^ (-32 : ℤ) : ℝ) : EReal) := by
  simp [C, Ideal.ofBits, Ideal.ieee]
  try norm_num

theorem inf_eq : Ideal.ofBits .f32 0x7F800000#32 = ⊤ := by simp [Ideal.ofBits, Ideal.ieee]

theorem sub_le : ∀ w : Fin 253, IntOp.subi 127#32 (IntOp.subi (BitVec.ofNat 32 w.val) 126#32) = BitVec.ofNat 32 (253 - w.val)
    ∧ (IntOp.subi 0#32 (IntOp.subi (BitVec.ofNat 32 w.val) 126#32)).toInt = 126 - (w.val : ℤ) := by decide +kernel

/-- The two exponents agree, and the two powers of two with them, where the quotient is below `2 ^ 126`. -/
theorem exp_agree {a : ℝ} (ha : 0 ≤ a) (hq : (a : EReal) * C < val 253) :
    expOf ((a : EReal) * C) = expR (a : EReal)
      ∧ Ideal.ofBits .f32 (IntOp.shli ArithUnit.vector (IntOp.subi 127#32 (expOf ((a : EReal) * C))) 23#32) = pow2 (IntOp.subi 0#32 (expR (a : EReal))) := by
  have hC : ∃ r : ℝ, 0 < r ∧ C = (r : EReal) := ⟨_, by positivity, C_eq⟩
  obtain ⟨r, hr, eC⟩ := hC
  have h0 : 0 ≤ (a : EReal) * C := by rw [eC, ← EReal.coe_mul]; exact EReal.coe_nonneg.mpr (by positivity)
  obtain ⟨w, ew, hw⟩ := field_found h0
  have hw2 : w ≤ 252 := by
    by_contra hc
    exact absurd ((val_mono (by omega : 253 ≤ w) hw.lt).trans hw.le) (not_le.mpr hq)
  have ec := count_found hw (by omega)
  by_cases ha0 : a = 0
  · have e1 : expOf ((a : EReal) * C) = 0#32 := by
      unfold expOf
      rw [ha0]
      simp [Scalar.select, IntOp.andi]
    have e2 : expR (a : EReal) = 0#32 := by unfold expR; rw [if_pos (by rw [ha0]; rfl)]
    rw [e1, e2]
    refine ⟨rfl, ?_⟩
    rw [pow2_eq]
    refine (val_eq 127 (by norm_num) (by norm_num)).trans ?_
    congr 2
  · have e1 : expOf ((a : EReal) * C) = IntOp.subi (BitVec.ofNat 32 w) 126#32 := by
      unfold expOf
      rw [ew, inf_eq, eC, ← EReal.coe_mul]
      have p1 : (0 : EReal) < ((a * r : ℝ) : EReal) := EReal.coe_pos.mpr (mul_pos (lt_of_le_of_ne ha (Ne.symm ha0)) hr)
      have p2 : ((a * r : ℝ) : EReal) < ⊤ := EReal.coe_lt_top _
      rw [decide_eq_true p1, decide_eq_true p2]
      rfl
    have e2 : expR (a : EReal) = IntOp.subi (BitVec.ofNat 32 w) 126#32 := by
      unfold expR
      rw [if_neg (by intro h; exact ha0 (EReal.coe_eq_zero.mp h)), ec]
    rw [e1, e2]
    refine ⟨rfl, ?_⟩
    obtain ⟨s1, s2⟩ := sub_le ⟨w, by omega⟩
    simp only at s1 s2
    rw [s1, shl_eq, pow2_eq, s2]
    refine (val_eq (253 - w) (by omega) (by omega)).trans ?_
    congr 2
    omega

/-- A scale byte between 1 and 254 decoded by its bits is two to the byte less 127. -/
theorem sc_dec (b : BitVec 8) (h1 : 1 ≤ b.toNat) (h2 : b.toNat ≤ 254) : sc b = dec b := by
  have e : BitVec.setWidth 32 b = BitVec.ofNat 32 b.toNat := by
    apply BitVec.eq_of_toNat_eq; simp
  unfold sc dec
  rw [pow2_eq, e]
  refine (val_eq b.toNat h1 h2).trans ?_
  congr 2
  have : ∀ f : Fin 256, (IntOp.subi (BitVec.ofNat 32 f.val) 127#32).toInt = (f.val : ℤ) - 127 := by decide +kernel
  exact (this ⟨b.toNat, by omega⟩).symm

end Cert.Quantise
-- ==== Proof.QRow.lean ====
/-
  ONE ROW. A normalised value is bounded, whatever the row holds: an infinite entry makes the sum of squares infinite and
  the row's factor zero; among reals no entry exceeds the root of the sum of the squares.
-/
module

public import proofs.«01_k».proof.Proof.QMath

@[expose] public section

set_option maxRecDepth 16384
set_option maxHeartbeats 400000

noncomputable section

namespace Cert.Quantise

open Idealize.ShloMosaic
open Cert.KernelIdeal.Hand (fstep field expOf sc byteOf)
open Cert.ReferenceIdeal.Hand (pow2 dec countOf expR amax)

/-- The largest finite number of 32 bits, and the small number added to the mean. -/
theorem max_eq : ∃ x : ℝ, 0 ≤ x ∧ x ≤ 2 ^ 128 ∧ Ideal.ofBits .f32 0x7F7FFFFF#32 = (x : EReal) := by
  refine ⟨(16777215 : ℝ) * (2 : ℝ) ^ (104 : ℕ), by positivity, by norm_num, ?_⟩
  simp [Ideal.ofBits, Ideal.ieee]

theorem eps_eq : ∃ x : ℝ, 0 < x ∧ Ideal.ofBits .f32 925353388#32 = (x : EReal) := by
  refine ⟨(10995116 : ℝ) * (2 : ℝ) ^ (-40 : ℤ), by positivity, ?_⟩
  simp [Ideal.ofBits, Ideal.ieee]

theorem n_eq : Ideal.ofBits .f32 1172307968#32 = ((7168 : ℝ) : EReal) := by
  rw [show (7168 : ℝ) = 14680064 * (2 : ℝ) ^ (-11 : ℤ) by norm_num]
  simp [Ideal.ofBits, Ideal.ieee]

/-- Dividing by 7168 is multiplying by its inverse. -/
theorem div_n (s : EReal) : Ideal.div s (Ideal.ofBits .f32 1172307968#32) = s * ((1 / 7168 : ℝ) : EReal) := by
  rw [n_eq]
  unfold Ideal.div
  rw [if_neg (by intro h; norm_num at h)]
  rw [← EReal.coe_inv, one_div]

theorem sq_nonneg' (x : EReal) : 0 ≤ x * x := by
  induction x using EReal.rec with
  | bot => simp
  | coe x => rw [← EReal.coe_mul]; exact EReal.coe_nonneg.mpr (mul_self_nonneg x)
  | top => simp

theorem coe_sum {ι : Type*} (s : Finset ι) (f : ι → ℝ) : ((∑ k ∈ s, f k : ℝ) : EReal) = ∑ k ∈ s, (f k : EReal) :=
  map_sum (⟨⟨fun x : ℝ => (x : EReal), EReal.coe_zero⟩, EReal.coe_add⟩ : ℝ →+ EReal) f s

/-- A normalised value. -/
def nv (h : Fin 7168 → EReal) (g : EReal) (n : Fin 7168) : EReal :=
  h n * Ideal.rsqrt ((∑ k, h k * h k) * ((1 / 7168 : ℝ) : EReal) + Ideal.ofBits .f32 925353388#32) * g

theorem nv_bound (h : Fin 7168 → EReal) (g : EReal) (hg : max g (-g) ≤ Ideal.ofBits .f32 0x7F7FFFFF#32) (n : Fin 7168) :
    max (nv h g n) (-nv h g n) ≤ ((85 * 2 ^ 128 : ℝ) : EReal) := by
  obtain ⟨ε, hε, eε⟩ := eps_eq
  obtain ⟨M, hM0, hM, eM⟩ := max_eq
  have hg1 : ∃ y : ℝ, g = (y : EReal) ∧ |y| ≤ 2 ^ 128 := by
    rw [eM] at hg
    induction g using EReal.rec with
    | bot => exact absurd hg (by simp)
    | coe y =>
      refine ⟨y, rfl, ?_⟩
      rw [max_le_iff, ← EReal.coe_neg, EReal.coe_le_coe_iff, EReal.coe_le_coe_iff] at hg
      exact abs_le'.mpr ⟨hg.1.trans hM, hg.2.trans hM⟩
    | top => exact absurd hg (by simp)
  obtain ⟨y, rfl, hy⟩ := hg1
  unfold nv
  rw [eε]
  by_cases hinf : ∃ k, h k = ⊤ ∨ h k = ⊥
  · obtain ⟨k, hk⟩ := hinf
    have e1 : h k * h k = ⊤ := by rcases hk with hk | hk <;> rw [hk] <;> simp
    have e2 : (∑ k, h k * h k) = ⊤ := top_le_iff.mp (e1 ▸ Finset.single_le_sum (f := fun k => h k * h k) (fun i _ => sq_nonneg' (h i)) (Finset.mem_univ k))
    rw [e2, EReal.top_mul_coe_of_pos (by norm_num), EReal.top_add_coe]
    rw [Ideal.rsqrt_top, mul_zero, zero_mul, neg_zero, max_self]
    exact EReal.coe_nonneg.mpr (by positivity)
  · have hr : ∀ k, ∃ x : ℝ, h k = (x : EReal) := by
      intro k
      have hk : ¬ (h k = ⊤ ∨ h k = ⊥) := fun hk => hinf ⟨k, hk⟩
      exact ⟨(h k).toReal, (EReal.coe_toReal (fun e => hk (Or.inl e)) (fun e => hk (Or.inr e))).symm⟩
    choose f hf using hr
    have e1 : (∑ k, h k * h k) = ((∑ k, f k * f k : ℝ) : EReal) := by
      rw [coe_sum]
      exact Finset.sum_congr rfl fun k _ => by rw [hf k, ← EReal.coe_mul]
    set S : ℝ := ∑ k, f k * f k with hS
    have hle : f n * f n ≤ S := Finset.single_le_sum (f := fun k => f k * f k) (fun i _ => mul_self_nonneg (f i)) (Finset.mem_univ n)
    have hS0 : 0 ≤ S := (mul_self_nonneg _).trans hle
    have hms : 0 < S * (1 / 7168) + ε := by positivity
    rw [e1, ← EReal.coe_mul, ← EReal.coe_add, hf n]
    have e3 : Ideal.rsqrt ((S * (1 / 7168) + ε : ℝ) : EReal) = (((Real.sqrt (S * (1 / 7168) + ε))⁻¹ : ℝ) : EReal) := by
      rw [Ideal.rsqrt_coe, if_neg (not_lt.mpr hms.le), if_neg hms.ne']
    rw [e3, ← EReal.coe_mul, ← EReal.coe_mul, ← EReal.coe_neg, max_le_iff, EReal.coe_le_coe_iff, EReal.coe_le_coe_iff, ← abs_le']
    rw [abs_mul]
    refine mul_le_mul ?_ hy (abs_nonneg _) (by norm_num)
    have hq : 0 < Real.sqrt (S * (1 / 7168) + ε) := Real.sqrt_pos.mpr hms
    rw [abs_mul, abs_inv, abs_of_pos hq, ← div_eq_mul_inv, div_le_iff₀ hq]
    refine abs_le_of_sq_le_sq ?_ (by positivity)
    rw [mul_pow, Real.sq_sqrt hms.le]
    nlinarith

/-- The largest magnitude of a block of such values is a real number small enough for the quotient to be in range. -/
theorem amax_real (v : Fin 32 → EReal) (hv : ∀ i, max (v i) (-v i) ≤ ((85 * 2 ^ 128 : ℝ) : EReal)) :
    ∃ a : ℝ, 0 ≤ a ∧ amax v = (a : EReal) ∧ (a : EReal) * C < val 253 := by
  have h1 : amax v ≤ ((85 * 2 ^ 128 : ℝ) : EReal) := Finset.sup_le fun i _ => hv i
  have h0 : 0 ≤ amax v := by
    refine le_trans ?_ (Finset.le_sup (f := fun i => max (v i) (-v i)) (Finset.mem_univ 0))
    rcases le_total 0 (v 0) with h | h
    · exact le_max_of_le_left h
    · exact le_max_of_le_right (EReal.neg_nonneg.mpr h)
  have e : ((amax v).toReal : EReal) = amax v :=
    EReal.coe_toReal (fun e => by rw [e] at h1; exact absurd h1 (not_le.mpr (EReal.coe_lt_top _))) (fun e => by rw [e] at h0; exact absurd h0 (by simp))
  refine ⟨(amax v).toReal, EReal.toReal_nonneg h0, e.symm, ?_⟩
  have h2 : (amax v).toReal ≤ 85 * 2 ^ 128 := by rw [← EReal.coe_le_coe_iff, e]; exact h1
  rw [C_eq, val_eq 253 (by norm_num) (by norm_num), ← EReal.coe_mul, EReal.coe_lt_coe_iff]
  refine lt_of_le_of_lt (mul_le_mul_of_nonneg_right h2 (by positivity)) ?_
  norm_num

/-- A sum over tiles and their columns is the sum over all columns. -/
theorem sum_tiles (f : ℕ → EReal) (a b : ℕ) : ∑ i ∈ Finset.range a, ∑ j ∈ Finset.range b, f (b * i + j) = ∑ n ∈ Finset.range (b * a), f n := by
  induction a with
  | zero => simp
  | succ a ih => rw [Finset.sum_range_succ, ih, Nat.mul_succ, Finset.sum_range_add]

/-- The lanes' sums of the tiles' columns, added over the lanes. -/
theorem sum_lanes (f : ℕ → EReal) : ∑ l : Fin 128, ∑ b ∈ Finset.range 14, ∑ p : Fin 4, f (512 * b + (128 * p.val + l.val)) = ∑ n : Fin 7168, f n.val := by
  rw [Finset.sum_comm, Fin.sum_univ_eq_sum_range f 7168, ← sum_tiles f 14 512]
  refine Finset.sum_congr rfl fun b _ => ?_
  rw [Finset.sum_comm, ← sum_tiles (fun n => f (512 * b + n)) 4 128, ← Fin.sum_univ_eq_sum_range (fun p => ∑ j ∈ Finset.range 128, f (512 * b + (128 * p + j))) 4]
  refine Finset.sum_congr rfl fun p _ => ?_
  exact Fin.sum_univ_eq_sum_range (fun l => f (512 * b + (128 * p.val + l))) 128

/-- The four blocks of the contraction. -/
theorem sum_blocks (f : ℕ → EReal) : ∑ k ∈ Finset.range 4, ∑ p : Fin 4096, f (4096 * k + p.val) = ∑ q : Fin 16384, f q.val := by
  rw [Fin.sum_univ_eq_sum_range f 16384, ← sum_tiles f 4 4096]
  refine Finset.sum_congr rfl fun k _ => ?_
  exact Fin.sum_univ_eq_sum_range (fun p => f (4096 * k + p)) 4096

end Cert.Quantise
-- ==== Proof.RFinal.lean ====
/-
  THE REFERENCE'S ARRAYS. Its one body reads whole arrays and stores whole results, so each result is the payload.
-/
module

public import proofs.«01_k».proof.Proof.Gen.ReferenceIdeal.Frame
public import Idealize.ShloMosaic.Lib.Pointwise
public import Idealize.ShloMosaic.Lib.VecWindow
public import Idealize.ShloMosaic.Lib.Tactic
public import Idealize.ShloMosaic.Lib.Pipeline.ValueKit
public import Idealize.ShloMosaic.Lib.UnfoldOut
public import Idealize.ShloMosaic.Lib.Claim

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe Idealize.ShloMosaic.Tactic Idealize.ShloMosaic.Pipeline

variable (m : (ℓ : Loc nD τ sig) → Buf (Elt Ideal) ℓ)

theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] :=
  (by decide +kernel : ∀ t : Fin grid0.N, _)

/-- Each input's block is its array. -/
theorem iblk0 (c : Dev nD) : (iblk m c 0 t0_0 : S256x16384.Idx → EReal) = V m c main_v0 := by blk_ext! [iblk, idx t0_0]
theorem iblk1 (c : Dev nD) : (iblk m c 1 t0_0 : S256x512.Idx → BitVec 8) = V m c main_v1 := by blk_ext! [iblk, idx t0_0]
theorem iblk2 (c : Dev nD) : (iblk m c 2 t0_0 : S16384x7168.Idx → EReal) = V m c main_arg2 := by blk_ext! [iblk, idx t0_0]
theorem iblk3 (c : Dev nD) : (iblk m c 3 t0_0 : S512x7168.Idx → BitVec 8) = V m c main_arg3 := by blk_ext! [iblk, idx t0_0]
theorem iblk4 (c : Dev nD) : (iblk m c 4 t0_0 : S256x7168.Idx → EReal) = V m c main_v2 := by blk_ext! [iblk, idx t0_0]
theorem iblk5 (c : Dev nD) : (iblk m c 5 t0_0 : S1x7168.Idx → EReal) = V m c main_v3 := by blk_ext! [iblk, idx t0_0]

theorem final6 (c : Dev nD) : (dats m 0 c).arrAt 6 (cfgs 0).N
    = k0_pay2 (F := Ideal) (iblk m c 0 t0_0) (iblk m c 1 t0_0) (iblk m c 2 t0_0) (iblk m c 3 t0_0) (iblk m c 4 t0_0) := by
  refine (dats m 0 c).arrAt_eq_of_after_last 6 t0_0 (by decide +kernel) _ fun j => ?_
  blk_simp
  rw [after0_6]
  unfold_out out0_6
  frame_out

/-- The values the later payloads take. -/
def hR (c : Dev nD) : FVec Ideal S256x7168 .f32 := k0_pay3 (F := Ideal) (iblk m c 0 t0_0) (iblk m c 1 t0_0) (iblk m c 2 t0_0) (iblk m c 3 t0_0) (iblk m c 4 t0_0)
def sR (c : Dev nD) : FVec Ideal S256x1 .f32 := k0_pay4 (F := Ideal) (iblk m c 0 t0_0) (iblk m c 1 t0_0) (iblk m c 2 t0_0) (iblk m c 3 t0_0) (iblk m c 4 t0_0)

theorem final7 (c : Dev nD) : (dats m 0 c).arrAt 7 (cfgs 0).N
    = k0_pay8 (F := Ideal) (hR m c) (sR m c) (k0_pay5 (F := Ideal)) (iblk m c 5 t0_0) := by
  refine (dats m 0 c).arrAt_eq_of_after_last 7 t0_0 (by decide +kernel) _ fun j => ?_
  blk_simp
  rw [after0_7]
  unfold hR sR
  unfold_out out0_7
  frame_out
theorem final8 (c : Dev nD) : (dats m 0 c).arrAt 8 (cfgs 0).N
    = k0_pay1 (k0_pay7 (F := Ideal) (hR m c) (sR m c) (k0_pay5 (F := Ideal)) (iblk m c 5 t0_0)) := by
  refine (dats m 0 c).arrAt_eq_of_after_last 8 t0_0 (by decide +kernel) _ fun j => ?_
  blk_simp
  rw [after0_8]
  unfold hR sR
  unfold_out out0_8
  frame_out

end Cert.ReferenceIdeal.Hand
-- ==== Proof.IQuant.lean ====
/-
  THE LAST POINT'S QUANTISATION. The eight trips' stores cover the codes and the scale bytes; each element is the
  quantiser's value of the row of `h`.
-/
module

public import proofs.«01_k».proof.Proof.IQPoint
import all proofs.«01_k».proof.Proof.Gen.KernelIdeal.Loops
public import Idealize.ShloMosaic.Lib.Pointwise
public import Idealize.ShloMosaic.Lib.VecWindow
public import Idealize.ShloMosaic.Lib.Tactic

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic

theorem coord_cond6 : ∀ i : grid0.Coords, (i 0).val = 13 → (i 1).val = 3 → k0_cond6 i = 1#1 := by decide +kernel
theorem trips_eq : k0_t1_loop.trips = 8 := by decide +kernel

/-- The pieces of the trips before `n`: every one is a trip's, and every trip's is there. -/
theorem pb9_of_mem (c : Dev nD) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole) (h6 : k0_cond6 i = 1#1) (X7 : BufTy.Contents (Elt Ideal) arg7.view.ty) (X13 : BufTy.Contents (Elt Ideal) arg13.view.ty) (X14 : BufTy.Contents (Elt Ideal) arg14.view.ty) :
    ∀ n, n ≤ k0_t1_loop.trips → ∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 n).1, ∃ k cc, p = pieceQ qLane arg7 arg13 X7 X13 (qR i h6 arg14 X14 k) k cc
  | 0, _, p, hp => by
    have hp' : p ∈ ([] : List (View.Piece (Elt Ideal) S256x7168 .fp8e4m3)) := hp
    simp at hp'
  | n + 1, hn, p, hp => by
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩] at hp
    rcases List.mem_append.mp hp with h | h
    · rw [show (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩).1 = _ from trip9 Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩] at h
      obtain ⟨cc, -, rfl⟩ := List.mem_map.mp h
      exact ⟨_, cc, rfl⟩
    · exact pb9_of_mem c i arg2 harg2 arg3 harg3 arg4 harg4 arg5 harg5 arg6 harg6 arg7 harg7 arg8 harg8 arg9 harg9 arg10 harg10 arg11 harg11 arg12 harg12 arg13 harg13 arg14 harg14 h6 X7 X13 X14 n (by omega) p h

theorem mem_all_chunks : ∀ c : Fin 56, c ∈ chunks := by decide +kernel

theorem mem_pb9 (c : Dev nD) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole) (h6 : k0_cond6 i = 1#1) (X7 : BufTy.Contents (Elt Ideal) arg7.view.ty) (X13 : BufTy.Contents (Elt Ideal) arg13.view.ty) (X14 : BufTy.Contents (Elt Ideal) arg14.view.ty) (k : Fin k0_t1_loop.trips) (cc : Fin 56) :
    ∀ n, n ≤ k0_t1_loop.trips → k.val < n → pieceQ qLane arg7 arg13 X7 X13 (qR i h6 arg14 X14 k) k cc ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 n).1
  | 0, _, hk => by omega
  | n + 1, hn, hk => by
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩]
    refine List.mem_append.mpr ?_
    by_cases e : k.val = n
    · refine Or.inl ?_
      obtain rfl : k = ⟨n, hn⟩ := Fin.ext e
      rw [show (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩).1 = _ from trip9 Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩]
      exact List.mem_map.mpr ⟨cc, mem_all_chunks cc, rfl⟩
    · exact Or.inr (mem_pb9 c i arg2 harg2 arg3 harg3 arg4 harg4 arg5 harg5 arg6 harg6 arg7 harg7 arg8 harg8 arg9 harg9 arg10 harg10 arg11 harg11 arg12 harg12 arg13 harg13 arg14 harg14 h6 X7 X13 X14 k cc n (by omega) (by omega))

/-- The two stores of scale bytes of a trip. -/
def pieceA (i : grid0.Coords) (h6 : k0_cond6 i = 1#1) (arg7 : Memref sig .tc .vmem S1x7168 .f32) (arg13 : Memref sig .tc .vmem S256x7168 .bf16) (arg14 : Memref sig .tc .vmem S256x128 .f32) (X7 : BufTy.Contents (Elt Ideal) arg7.view.ty) (X13 : BufTy.Contents (Elt Ideal) arg13.view.ty) (X14 : BufTy.Contents (Elt Ideal) arg14.view.ty)
    (k : Fin k0_t1_loop.trips) : View.Piece (Elt Ideal) S256x224 .i8 :=
  ⟨Rect.unit (s := S256x224) (k0_off62 k) S32x128.size (k0_off62_inb i k h6), k0_pay1 (ns0 qLane fun c => qE qLane (qV arg7 arg13 X7 X13 (qR i h6 arg14 X14 k) k c))⟩
def pieceB (i : grid0.Coords) (h6 : k0_cond6 i = 1#1) (arg7 : Memref sig .tc .vmem S1x7168 .f32) (arg13 : Memref sig .tc .vmem S256x7168 .bf16) (arg14 : Memref sig .tc .vmem S256x128 .f32) (X7 : BufTy.Contents (Elt Ideal) arg7.view.ty) (X13 : BufTy.Contents (Elt Ideal) arg13.view.ty) (X14 : BufTy.Contents (Elt Ideal) arg14.view.ty)
    (k : Fin k0_t1_loop.trips) : View.Piece (Elt Ideal) S256x224 .i8 :=
  ⟨Rect.unit (s := S256x224) (k0_off63 k) S32x96.size (k0_off63_inb i k h6), nsLast (ns1 qLane fun c => qE qLane (qV arg7 arg13 X7 X13 (qR i h6 arg14 X14 k) k c))⟩

theorem pb10_of_mem (c : Dev nD) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole) (h6 : k0_cond6 i = 1#1) (X7 : BufTy.Contents (Elt Ideal) arg7.view.ty) (X13 : BufTy.Contents (Elt Ideal) arg13.view.ty) (X14 : BufTy.Contents (Elt Ideal) arg14.view.ty) :
    ∀ n, n ≤ k0_t1_loop.trips → ∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 n).2, ∃ k, p = pieceA i h6 arg7 arg13 arg14 X7 X13 X14 k ∨ p = pieceB i h6 arg7 arg13 arg14 X7 X13 X14 k
  | 0, _, p, hp => by
    have hp' : p ∈ ([] : List (View.Piece (Elt Ideal) S256x224 .i8)) := hp
    simp at hp'
  | n + 1, hn, p, hp => by
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩] at hp
    rcases List.mem_append.mp hp with h | h
    · rw [show (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩).2 = [pieceB i h6 arg7 arg13 arg14 X7 X13 X14 ⟨n, hn⟩, pieceA i h6 arg7 arg13 arg14 X7 X13 X14 ⟨n, hn⟩] from trip10 Variants.none c none i arg2 harg2 arg3 harg3 arg4 harg4 arg5 harg5 arg6 harg6 arg7 harg7 arg8 harg8 arg9 harg9 arg10 harg10 arg11 harg11 arg12 harg12 arg13 harg13 arg14 harg14 h6 X7 X13 X14 ⟨n, hn⟩] at h
      rcases List.mem_cons.mp h with h | h
      · exact ⟨_, Or.inr h⟩
      · exact ⟨_, Or.inl (List.mem_singleton.mp h)⟩
    · exact pb10_of_mem c i arg2 harg2 arg3 harg3 arg4 harg4 arg5 harg5 arg6 harg6 arg7 harg7 arg8 harg8 arg9 harg9 arg10 harg10 arg11 harg11 arg12 harg12 arg13 harg13 arg14 harg14 h6 X7 X13 X14 n (by omega) p h

theorem mem_pb10 (c : Dev nD) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole) (h6 : k0_cond6 i = 1#1) (X7 : BufTy.Contents (Elt Ideal) arg7.view.ty) (X13 : BufTy.Contents (Elt Ideal) arg13.view.ty) (X14 : BufTy.Contents (Elt Ideal) arg14.view.ty) (k : Fin k0_t1_loop.trips) :
    ∀ n, n ≤ k0_t1_loop.trips → k.val < n → pieceA i h6 arg7 arg13 arg14 X7 X13 X14 k ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 n).2 ∧ pieceB i h6 arg7 arg13 arg14 X7 X13 X14 k ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 n).2
  | 0, _, hk => by omega
  | n + 1, hn, hk => by
    rw [pb_k0_t1_succ Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩]
    by_cases e : k.val = n
    · obtain rfl : k = ⟨n, hn⟩ := Fin.ext e
      rw [show (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane X7 X13 X14 ⟨n, hn⟩).2 = [pieceB i h6 arg7 arg13 arg14 X7 X13 X14 ⟨n, hn⟩, pieceA i h6 arg7 arg13 arg14 X7 X13 X14 ⟨n, hn⟩] from trip10 Variants.none c none i arg2 harg2 arg3 harg3 arg4 harg4 arg5 harg5 arg6 harg6 arg7 harg7 arg8 harg8 arg9 harg9 arg10 harg10 arg11 harg11 arg12 harg12 arg13 harg13 arg14 harg14 h6 X7 X13 X14 ⟨n, hn⟩]
      exact ⟨List.mem_append.mpr (Or.inl (List.mem_cons_of_mem _ List.mem_cons_self)), List.mem_append.mpr (Or.inl List.mem_cons_self)⟩
    · have h := mem_pb10 c i arg2 harg2 arg3 harg3 arg4 harg4 arg5 harg5 arg6 harg6 arg7 harg7 arg8 harg8 arg9 harg9 arg10 harg10 arg11 harg11 arg12 harg12 arg13 harg13 arg14 harg14 h6 X7 X13 X14 k n (by omega) (by omega)
      exact ⟨List.mem_append.mpr (Or.inr h.1), List.mem_append.mpr (Or.inr h.2)⟩

set_option maxHeartbeats 4000000 in
/-- The last point's stores of codes and scale bytes are the trips'. -/
theorem lists_last (c : Dev nD) (i : grid0.Coords) (arg2 : Memref sig .tc .vmem S256x16384 .fp8e4m3) (harg2 : arg2.IsWhole) (arg3 : Memref sig .tc .vmem S256x512 .i8) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S256x512 .bf16) (harg6 : arg6.IsWhole) (arg7 : Memref sig .tc .vmem S1x7168 .f32) (harg7 : arg7.IsWhole) (arg8 : Memref sig .tc .vmem S256x512 .bf16) (harg8 : arg8.IsWhole) (arg9 : Memref sig .tc .vmem S256x7168 .fp8e4m3) (harg9 : arg9.IsWhole) (arg10 : Memref sig .tc .vmem S256x224 .i8) (harg10 : arg10.IsWhole) (arg11 : Memref sig .tc .vmem S256x16384 .bf16) (harg11 : arg11.IsWhole) (arg12 : Memref sig .tc .vmem S256x512 .f32) (harg12 : arg12.IsWhole) (arg13 : Memref sig .tc .vmem S256x7168 .bf16) (harg13 : arg13.IsWhole) (arg14 : Memref sig .tc .vmem S256x128 .f32) (harg14 : arg14.IsWhole) (h1 : ¬ k0_cond1 i = 1#1) (h2 : ¬ cond2 i = 1#1) (h3 : k0_cond3 i = 1#1) (h4 : ¬ cond4 i = 1#1) (h5 : cond5 i = 1#1) (h6 : k0_cond6 i = 1#1) (f2 : BufTy.Contents (Elt Ideal) arg2.view.ty) (f3 : BufTy.Contents (Elt Ideal) arg3.view.ty) (f4 : BufTy.Contents (Elt Ideal) arg4.view.ty) (f5 : BufTy.Contents (Elt Ideal) arg5.view.ty) (f6 : BufTy.Contents (Elt Ideal) arg6.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) :
    (runB4 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.1 = (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane f7 (arg13.view.writes (Elt Ideal) f13 (runB4 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.1) (arg14.view.writes (Elt Ideal) arg14.view.junk (runB4 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2.1) k0_t1_loop.trips).1
      ∧ (runB4 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.1 = (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 h6 qLane f7 (arg13.view.writes (Elt Ideal) f13 (runB4 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.1) (arg14.view.writes (Elt Ideal) arg14.view.junk (runB4 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2.1) k0_t1_loop.trips).2 := by
  unfold runB4
  exact ⟨rfl, rfl⟩

variable (m : (ℓ : Loc nD τ sig) → Buf (Elt Ideal) ℓ)

/-- The reciprocal root of a row's mean square, -/
def RS (c : Dev nD) (r : Fin 256) : EReal :=
  Ideal.rsqrt ((∑ l : Fin 128, SQ m c 14 r l.val) * Named.named (F := Ideal) κ "inv_n" (φ := FTy.f32) 957499685#32 + Ideal.ofBits .f32 925353388#32)
/-- the normalised value, -/
def VV (c : Dev nD) (r : Fin 256) (q : Fin 7168) : EReal := HN m c r q.val * RS m c r * GM m c (ix2 0 q)
/-- its block's quotient, -/
def QQ (c : Dev nD) (r : Fin 256) (b : Fin 224) : EReal :=
  (Finset.univ.sup fun i : Fin 32 => max (VV m c r ⟨32 * b.val + i.val, by omega⟩) (-VV m c r ⟨32 * b.val + i.val, by omega⟩)) * Ideal.ofBits .f32 0x3B124925#32
/-- the code, -/
def NC (c : Dev nD) (r : Fin 256) (q : Fin 7168) : EReal :=
  min (Ideal.ofBits .f32 0x43E00000#32) (max (Ideal.ofBits .f32 0xC3E00000#32)
      (VV m c r q * Ideal.ofBits .f32 (IntOp.shli ArithUnit.vector (IntOp.subi 127#32 (expOf (QQ m c r ⟨q.val / 32, by omega⟩))) 23#32)))
/-- and the scale byte. -/
def NS (c : Dev nD) (r : Fin 256) (b : Fin 224) : BitVec 8 := byteOf (expOf (QQ m c r b))

/-- The place of an element of a box of two axes. -/
theorem emb_at {R C : ℕ} {n m : ℕ} {off : Fin 2 → ℕ} {o1 o2 : ℕ} (ho : off = ![o1, o2])
    (inb : ∀ a, off a + (⟨2, ![n, m]⟩ : Shape).size a ≤ (⟨2, ![R, C]⟩ : Shape).size a) (r : Fin n) (l : Fin m) (r' : Fin R) (q : Fin C)
    (hr : r'.val = o1 + r.val) (hq : q.val = o2 + l.val) :
    (Rect.unit (s := ⟨2, ![R, C]⟩) off (⟨2, ![n, m]⟩ : Shape).size inb).emb (ix2 r l) = ix2 r' q := by
  subst ho
  refine Rect.emb_eq_of_coords _ _ _ fun a => ?_
  match a with
  | 0 => show r'.val = o1 + 1 * r.val; omega
  | 1 => show q.val = o2 + 1 * l.val; omega

/-- Membership of a box of two axes. -/
theorem mem_at {R C : ℕ} {n m : ℕ} {off : Fin 2 → ℕ} {o1 o2 : ℕ} (ho : off = ![o1, o2])
    (inb : ∀ a, off a + (⟨2, ![n, m]⟩ : Shape).size a ≤ (⟨2, ![R, C]⟩ : Shape).size a) (r : Fin R) (q : Fin C)
    (hr : o1 ≤ r.val ∧ r.val < o1 + n) (hq : o2 ≤ q.val ∧ q.val < o2 + m) :
    ix2 r q ∈ (Rect.unit (s := ⟨2, ![R, C]⟩) off (⟨2, ![n, m]⟩ : Shape).size inb).set := by
  subst ho
  rw [Rect.mem_set_unit]
  intro a
  match a with
  | 0 => exact hr
  | 1 => exact hq

theorem off6_eq (k : Fin k0_t1_loop.trips) (cc : Fin 56) : (![(k0_off6 k) 0, 128 * cc.val] : Fin 2 → ℕ) = ![32 * k.val, 128 * cc.val] := by
  rw [k0_off6_eq]; rfl

section values

variable {m} {c : Dev nD} {i : grid0.Coords} (h6 : k0_cond6 i = 1#1) {arg7 : Memref sig .tc .vmem S1x7168 .f32} {arg13 : Memref sig .tc .vmem S256x7168 .bf16} {arg14 : Memref sig .tc .vmem S256x128 .f32}
  {X7 : BufTy.Contents (Elt Ideal) arg7.view.ty} {X13 : BufTy.Contents (Elt Ideal) arg13.view.ty} {X14 : BufTy.Contents (Elt Ideal) arg14.view.ty}
  (hh : ∀ (r : Fin 256) (q : Fin 7168), arg13.view.read (Elt Ideal) X13 (ix2 r q) = HN m c r q.val)
  (hs : ∀ (r : Fin 256) (l : Fin 128), arg14.view.read (Elt Ideal) X14 (ix2 r l) = SQ m c 14 r l.val)
  (hg : ∀ q : Fin 7168, arg7.view.read (Elt Ideal) X7 (ix2 0 q) = GM m c (ix2 0 q))

include hs in
theorem qR_val (k : Fin k0_t1_loop.trips) (a : Fin 32) (r : Fin 256) (hr : r.val = 32 * k.val + a.val) :
    (qR (F := Ideal) i h6 arg14 X14 k (ix2 a 0) : EReal) = RS m c r := by
  refine (qR_apply _ a).trans ?_
  unfold RS
  refine congrArg (fun x : EReal => Ideal.rsqrt (x * Named.named (F := Ideal) κ "inv_n" (φ := FTy.f32) 957499685#32 + Ideal.ofBits .f32 925353388#32)) (Finset.sum_congr rfl fun l _ => ?_)
  exact (congrArg (arg14.view.read (Elt Ideal) X14) (emb_at (o1 := 32 * k.val) (o2 := 0) (k0_off5_eq k) _ a l r l hr (by omega))).trans (hs r l)

include hh hs hg in
theorem qV_val (k : Fin k0_t1_loop.trips) (cc : Fin 56) (a : Fin 32) (l : Fin 128) (r : Fin 256) (hr : r.val = 32 * k.val + a.val) :
    (qV (F := Ideal) arg7 arg13 X7 X13 (qR i h6 arg14 X14 k) k cc (ix2 a l) : EReal) = VV m c r ⟨128 * cc.val + l.val, by omega⟩ := by
  refine (qV_apply _ _ _ a l).trans ?_
  unfold VV
  refine congrArg₂ (fun x y : EReal => x * y) (congrArg₂ (fun x y : EReal => x * y) ?_ (qR_val h6 hs k a r hr)) ?_
  · exact (congrArg (arg13.view.read (Elt Ideal) X13) (emb_at (off6_eq k cc) (chunk_inb k cc) a l r ⟨128 * cc.val + l.val, by omega⟩ hr rfl)).trans (hh r _)
  · exact (congrArg (arg7.view.read (Elt Ideal) X7) (emb_at (o1 := 0) rfl (gain_inb cc) 0 l 0 ⟨128 * cc.val + l.val, by omega⟩ rfl rfl)).trans (hg _)

include hh hs hg in
theorem qQ_val (k : Fin k0_t1_loop.trips) (cc : Fin 56) (a : Fin 32) (l : Fin 128) (r : Fin 256) (hr : r.val = 32 * k.val + a.val) (b : Fin 224) (hb : b.val = 4 * cc.val + l.val / 32) :
    (qQ (F := Ideal) qLane (qV arg7 arg13 X7 X13 (qR i h6 arg14 X14 k) k cc) (ix2 a l) : EReal) = QQ m c r b := by
  refine (qQ_apply _ a l).trans ?_
  unfold QQ blkMax
  refine congrArg (fun x : EReal => x * _) (congrArg (fun f => Finset.univ.sup f) (funext fun p => ?_))
  have e := qV_val h6 hh hs hg k cc a ⟨32 * (l.val / 32) + p.val, by omega⟩ r hr
  have e2 : (⟨128 * cc.val + (32 * (l.val / 32) + p.val), by omega⟩ : Fin 7168) = ⟨32 * b.val + p.val, by omega⟩ := Fin.ext (by show _ = _; dsimp only; omega)
  rw [← e2]
  exact congrArg (fun x : EReal => max x (-x)) e

include hh hs hg in
theorem codes_val (k : Fin k0_t1_loop.trips) (cc : Fin 56) (a : Fin 32) (l : Fin 128) (r : Fin 256) (hr : r.val = 32 * k.val + a.val) :
    (qNC (F := Ideal) qLane (qV arg7 arg13 X7 X13 (qR i h6 arg14 X14 k) k cc) (ix2 a l) : EReal) = NC m c r ⟨128 * cc.val + l.val, by omega⟩ := by
  refine (qNC_apply _ a l).trans ?_
  rw [qQ_val h6 hh hs hg k cc a l r hr ⟨(128 * cc.val + l.val) / 32, by omega⟩ (by show _ / _ = _; omega)]
  unfold NC
  exact congrArg (fun x : EReal => min _ (max _ (x * _))) (qV_val h6 hh hs hg k cc a l r hr)

include hh hs hg in
theorem pieceQ_val (k : Fin k0_t1_loop.trips) (cc : Fin 56) (x) :
    (pieceQ (F := Ideal) qLane arg7 arg13 X7 X13 (qR i h6 arg14 X14 k) k cc).2 x
      = NC m c ((pieceQ (F := Ideal) qLane arg7 arg13 X7 X13 (qR i h6 arg14 X14 k) k cc).1.emb x 0) ((pieceQ (F := Ideal) qLane arg7 arg13 X7 X13 (qR i h6 arg14 X14 k) k cc).1.emb x 1) := by
  obtain ⟨a, l, rfl⟩ : ∃ (a : Fin 32) (l : Fin 128), x = ix2 a l := ⟨x 0, x 1, eq_ix2 x⟩
  have hk : k.val < 8 := Nat.lt_of_lt_of_le k.isLt k0_t1_abs.2.1
  have e : (pieceQ (F := Ideal) qLane arg7 arg13 X7 X13 (qR i h6 arg14 X14 k) k cc).1.emb (ix2 a l) = ix2 ⟨32 * k.val + a.val, by omega⟩ ⟨128 * cc.val + l.val, by omega⟩ :=
    emb_at (off6_eq k cc) (chunk_inb k cc) a l _ _ rfl rfl
  rw [e]
  exact codes_val h6 hh hs hg k cc a l _ rfl

include hh hs hg in
theorem exps_val (k : Fin k0_t1_loop.trips) (cc : Fin 56) (a : Fin 32) (l : Fin 128) (r : Fin 256) (hr : r.val = 32 * k.val + a.val) (b : Fin 224) (hb : b.val = 4 * cc.val + l.val / 32) :
    qE qLane (qV (F := Ideal) arg7 arg13 X7 X13 (qR i h6 arg14 X14 k) k cc) (ix2 a l) = expOf (QQ m c r b) := by
  rw [qE_apply, qQ_val h6 hh hs hg k cc a l r hr b hb]

include hh hs hg in
theorem pieceA_val (k : Fin k0_t1_loop.trips) (x) :
    (pieceA i h6 arg7 arg13 arg14 X7 X13 X14 k).2 x
      = NS m c ((pieceA i h6 arg7 arg13 arg14 X7 X13 X14 k).1.emb x 0) ((pieceA i h6 arg7 arg13 arg14 X7 X13 X14 k).1.emb x 1) := by
  obtain ⟨a, l, rfl⟩ : ∃ (a : Fin 32) (l : Fin 128), x = ix2 a l := ⟨x 0, x 1, eq_ix2 x⟩
  have hk : k.val < 8 := Nat.lt_of_lt_of_le k.isLt k0_t1_abs.2.1
  have e : (pieceA i h6 arg7 arg13 arg14 X7 X13 X14 k).1.emb (ix2 a l) = ix2 ⟨32 * k.val + a.val, by omega⟩ ⟨l.val, by omega⟩ :=
    emb_at (o1 := 32 * k.val) (o2 := 0) (k0_off62_eq k) (k0_off62_inb i k h6) a l _ _ rfl (by show l.val = 0 + l.val; omega)
  rw [e]
  refine (pay1_apply _ a l).trans ?_
  rw [ns0_apply]
  exact congrArg byteOf (exps_val h6 hh hs hg k _ a _ _ rfl _ (by show l.val = 4 * (l.val / 4) + 32 * (l.val % 4) / 32; omega))

include hh hs hg in
theorem pieceB_val (k : Fin k0_t1_loop.trips) (x) :
    (pieceB i h6 arg7 arg13 arg14 X7 X13 X14 k).2 x
      = NS m c ((pieceB i h6 arg7 arg13 arg14 X7 X13 X14 k).1.emb x 0) ((pieceB i h6 arg7 arg13 arg14 X7 X13 X14 k).1.emb x 1) := by
  obtain ⟨a, l, rfl⟩ : ∃ (a : Fin 32) (l : Fin 96), x = ix2 a l := ⟨x 0, x 1, eq_ix2 x⟩
  have hk : k.val < 8 := Nat.lt_of_lt_of_le k.isLt k0_t1_abs.2.1
  have e : (pieceB i h6 arg7 arg13 arg14 X7 X13 X14 k).1.emb (ix2 a l) = ix2 ⟨32 * k.val + a.val, by omega⟩ ⟨128 + l.val, by omega⟩ :=
    emb_at (o1 := 32 * k.val) (o2 := 128) (k0_off63_eq k) (k0_off63_inb i k h6) a l _ _ rfl rfl
  rw [e]
  refine (nsLast_apply _ a l).trans ?_
  rw [ns1_apply]
  exact congrArg byteOf (exps_val h6 hh hs hg k _ a _ _ rfl _ (by show 128 + l.val = 4 * (32 + l.val / 4) + 32 * (l.val % 4) / 32; omega))

end values

/-- The last point's quantisation. -/
theorem quant : Quant m (fun c o => o = fun y => NC m c (y 0) (y 1)) (fun c o => o = fun y => NS m c (y 0) (y 1)) := by
  intro c i arg2 harg2 arg3 harg3 arg4 harg4 arg5 harg5 arg6 harg6 arg7 harg7 arg8 harg8 arg9 harg9 arg10 harg10 arg11 harg11 arg12 harg12 arg13 harg13 arg14 harg14 f2 f3 f4 f5 f6 f7 f8 f9 f10 f11 f12 f13 f14 g8 g9 g10 g11 g12 g13 g14 i0 i1 ho hh hs hg
  have h6 := coord_cond6 i i0 i1
  have c1 : ¬ k0_cond1 i = 1#1 := fun h => by have := (coord_cond1 i).mp h; omega
  cases ho with
  | A0 h1 => exact absurd h1 c1
  | A1 h1 => exact absurd h1 c1
  | A3 h1 => exact absurd h1 c1
  | B0 _ _ _ _ _ h => exact absurd h6 h
  | B1 _ _ _ _ _ h => exact absurd h6 h
  | B3 _ _ _ _ _ h => exact absurd h6 h
  | B4 h1 h2 h3 h4 h5 h6 =>
    have el := lists_last c i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14
    refine ⟨?_, ?_⟩
    · refine tr1 (fun L => arg9.view.read (Elt Ideal) (arg9.view.writes (Elt Ideal) f9 L) = fun y => NC m c (y 0) (y 1)) el.1 ?_
      refine funext fun y => View.read_writes_apply_of_pieces arg9.view f9 (fun y => NC m c (y 0) (y 1)) _ ?_ y ?_
      · intro p hp x
        obtain ⟨k, cc, rfl⟩ := pb9_of_mem c i arg2 harg2 arg3 harg3 arg4 harg4 arg5 harg5 arg6 harg6 arg7 harg7 arg8 harg8 arg9 harg9 arg10 harg10 arg11 harg11 arg12 harg12 arg13 harg13 arg14 harg14 h6 _ _ _ _ le_rfl p hp
        exact pieceQ_val h6 hh hs hg k cc x
      · obtain ⟨r, q, rfl⟩ : ∃ (r : Fin 256) (q : Fin 7168), y = ix2 r q := ⟨y 0, y 1, eq_ix2 y⟩
        have hk : r.val / 32 < k0_t1_loop.trips := by rw [trips_eq]; omega
        refine ⟨_, mem_pb9 c i arg2 harg2 arg3 harg3 arg4 harg4 arg5 harg5 arg6 harg6 arg7 harg7 arg8 harg8 arg9 harg9 arg10 harg10 arg11 harg11 arg12 harg12 arg13 harg13 arg14 harg14 h6 _ _ _ ⟨r.val / 32, hk⟩ ⟨q.val / 128, by omega⟩ _ le_rfl hk, ?_⟩
        exact mem_at (off6_eq _ _) (chunk_inb _ _) r q (by dsimp only; omega) (by dsimp only; omega)
    · refine tr1 (fun L => arg10.view.read (Elt Ideal) (arg10.view.writes (Elt Ideal) f10 L) = fun y => NS m c (y 0) (y 1)) el.2 ?_
      refine funext fun y => View.read_writes_apply_of_pieces arg10.view f10 (fun y => NS m c (y 0) (y 1)) _ ?_ y ?_
      · intro p hp x
        obtain ⟨k, rfl | rfl⟩ := pb10_of_mem c i arg2 harg2 arg3 harg3 arg4 harg4 arg5 harg5 arg6 harg6 arg7 harg7 arg8 harg8 arg9 harg9 arg10 harg10 arg11 harg11 arg12 harg12 arg13 harg13 arg14 harg14 h6 _ _ _ _ le_rfl p hp
        · exact pieceA_val h6 hh hs hg k x
        · exact pieceB_val h6 hh hs hg k x
      · obtain ⟨r, q, rfl⟩ : ∃ (r : Fin 256) (q : Fin 224), y = ix2 r q := ⟨y 0, y 1, eq_ix2 y⟩
        have hk : r.val / 32 < k0_t1_loop.trips := by rw [trips_eq]; omega
        have hm := mem_pb10 c i arg2 harg2 arg3 harg3 arg4 harg4 arg5 harg5 arg6 harg6 arg7 harg7 arg8 harg8 arg9 harg9 arg10 harg10 arg11 harg11 arg12 harg12 arg13 harg13 arg14 harg14 h6 f7 (arg13.view.writes (Elt Ideal) f13 (runB4 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.1) (arg14.view.writes (Elt Ideal) arg14.view.junk (runB4 (F := Ideal) Variants.none c none i arg2 harg2 arg3 harg3 arg4 harg4 arg5 harg5 arg6 harg6 arg7 harg7 arg8 harg8 arg9 harg9 arg10 harg10 arg11 harg11 arg12 harg12 arg13 harg13 arg14 harg14 h1 h2 h3 h4 h5 h6 f2 f3 f4 f5 f6 f7 f8 f9 f10 f11 f12 f13 f14).2.2.2.2.2.1) ⟨r.val / 32, hk⟩ _ le_rfl hk
        by_cases hq : q.val < 128
        · exact ⟨_, hm.1, mem_at (o1 := 32 * (r.val / 32)) (o2 := 0) (k0_off62_eq _) (k0_off62_inb i _ h6) r q (by omega) (by omega)⟩
        · exact ⟨_, hm.2, mem_at (o1 := 32 * (r.val / 32)) (o2 := 128) (k0_off63_eq _) (k0_off63_inb i _ h6) r q (by omega) (by omega)⟩

end Cert.KernelIdeal.Hand
-- ==== Proof.Entries.lean ====
/-
  WHERE THE GRIDS START. From equal arguments the two programs find the same arrays; and what the precondition says of the
  scale bytes and the gains.
-/
module

public import proofs.«01_k».proof.Defs
public import proofs.«01_k».proof.Proof.QRow
public import proofs.«01_k».proof.Proof.RFinal
public import proofs.«01_k».proof.Proof.IQuant
public import proofs.«01_k».proof.Proof.Gen.Pre_in_range
public import Idealize.ShloMosaic.Lib.ReduceAll
public import Idealize.ShloMosaic.Lib.Claim

@[expose] public section

set_option maxRecDepth 16384
set_option maxHeartbeats 400000

noncomputable section

namespace Cert.Quantise

open Idealize.ShloMosaic Idealize.ShloMosaic.TcCoe Idealize.ShloMosaic.Tactic
open Cert.KernelIdeal.Hand (XC XS WC WS RES GM)

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}
  (c : Dev Cert.KernelIdeal.nD)

/-- The arguments agree on a device. -/
structure Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop where
  a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

theorem in0 (h : Agree m m' c) (y : Cert.KernelIdeal.S256x16384.Idx) : (Cert.ReferenceIdeal.Gen.V m' c Cert.ReferenceIdeal.main_v0 : Cert.KernelIdeal.S256x16384.Idx → EReal) y = XC m c y := by
  unfold XC; entry_read; rw [h.a0]; rfl
theorem in1 (h : Agree m m' c) (y : Cert.KernelIdeal.S256x512.Idx) : (Cert.ReferenceIdeal.Gen.V m' c Cert.ReferenceIdeal.main_v1 : Cert.KernelIdeal.S256x512.Idx → BitVec 8) y = XS m c y := by
  unfold XS; entry_read; rw [h.a1]; rfl
theorem in2 (h : Agree m m' c) (y : Cert.KernelIdeal.S16384x7168.Idx) : (Cert.ReferenceIdeal.Gen.V m' c Cert.ReferenceIdeal.main_arg2 : Cert.KernelIdeal.S16384x7168.Idx → EReal) y = WC m c y := by
  unfold WC; rw [Cert.KernelIdeal.Gen.V_main_arg2, Cert.ReferenceIdeal.Gen.V_main_arg2, ← h.a2]
theorem in3 (h : Agree m m' c) (y : Cert.KernelIdeal.S512x7168.Idx) : (Cert.ReferenceIdeal.Gen.V m' c Cert.ReferenceIdeal.main_arg3 : Cert.KernelIdeal.S512x7168.Idx → BitVec 8) y = WS m c y := by
  unfold WS; rw [Cert.KernelIdeal.Gen.V_main_arg3, Cert.ReferenceIdeal.Gen.V_main_arg3, ← h.a3]
theorem in4 (h : Agree m m' c) (y : Cert.KernelIdeal.S256x7168.Idx) : (Cert.ReferenceIdeal.Gen.V m' c Cert.ReferenceIdeal.main_v2 : Cert.KernelIdeal.S256x7168.Idx → EReal) y = RES m c y := by
  unfold RES; entry_read; rw [h.a4]; rfl
theorem in5 (h : Agree m m' c) (y : Cert.KernelIdeal.S1x7168.Idx) : (Cert.ReferenceIdeal.Gen.V m' c Cert.ReferenceIdeal.main_v3 : Cert.KernelIdeal.S1x7168.Idx → EReal) y = GM m c y := by
  unfold GM; entry_read; rw [h.a5]; rfl

/-- The precondition, read off. -/
structure Pre (m : (ℓ : Loc Cert.KernelIdeal.nD Cert.KernelIdeal.τ Cert.KernelIdeal.sig) → Buf (Elt Ideal) ℓ) (c : Dev Cert.KernelIdeal.nD) : Prop where
  xs : ∀ y, 1 ≤ (XS m c y).toNat ∧ (XS m c y).toNat ≤ 254
  ws : ∀ y, 1 ≤ (WS m c y).toNat ∧ (WS m c y).toNat ≤ 254
  g : ∀ y, max (GM m c y) (-GM m c y) ≤ Ideal.ofBits .f32 0x7F7FFFFF#32

theorem le_of_bit (x b : EReal) (p : BitVec.ofBool (decide (max x (-x) ≤ b)) = 1#1) : max x (-x) ≤ b := by
  by_contra hc
  rw [decide_eq_false hc] at p
  exact absurd p (by decide)

theorem pre_of (h : Cert.Pre_KernelIdeal_in_range m) : Pre m c := by
  have h := congrFun (h c) (fun a => Fin.elim0 a)
  obtain ⟨h1, h2⟩ := IntOp.andi_eq_one.1 h
  obtain ⟨h3, h4⟩ := IntOp.andi_eq_one.1 h1
  haveI : Subsingleton Cert.Pre_in_range.S_.Idx := ⟨fun a b => funext fun i => Fin.elim0 i⟩
  refine ⟨fun y => ?_, fun y => ?_, fun y => ?_⟩
  · have e : ∃ z, XS m c y = m ((c.tc : Thread Cert.KernelIdeal.nD Cert.KernelIdeal.τ).loc Cert.KernelIdeal.main_arg1) z := by
      unfold XS; entry_read; exact ⟨_, rfl⟩
    obtain ⟨z, e⟩ := e
    obtain ⟨p, q⟩ := IntOp.andi_eq_one.1 (Host.reduce_andi_all _ _ _ _ _ h3 z)
    rw [e]
    exact ⟨IntOp.cmpi_uge.1 p, IntOp.cmpi_ule.1 q⟩
  · have e : WS m c y = m ((c.tc : Thread Cert.KernelIdeal.nD Cert.KernelIdeal.τ).loc Cert.KernelIdeal.main_arg3) y := by
      unfold WS; rw [Cert.KernelIdeal.Gen.V_main_arg3]
    obtain ⟨p, q⟩ := IntOp.andi_eq_one.1 (Host.reduce_andi_all _ _ _ _ _ h4 y)
    rw [e]
    exact ⟨IntOp.cmpi_uge.1 p, IntOp.cmpi_ule.1 q⟩
  · have e : ∃ z, GM m c y = m ((c.tc : Thread Cert.KernelIdeal.nD Cert.KernelIdeal.τ).loc Cert.KernelIdeal.main_arg5) z := by
      unfold GM; entry_read; exact ⟨_, rfl⟩
    obtain ⟨z, e⟩ := e
    have p := Host.reduce_andi_all _ _ _ _ _ h2 z
    rw [e]
    exact le_of_bit _ _ p

end Cert.Quantise
-- ==== Proof.Equal.lean ====
/-
  THE THREE RESULTS AGREE. The reference's payloads over the arrays the kernel finds are the numbers the kernel leaves.
-/
module

public import proofs.«01_k».proof.Proof.Entries

@[expose] public section

set_option maxRecDepth 16384
set_option maxHeartbeats 400000

noncomputable section

namespace Cert.Quantise

open Idealize.ShloMosaic Idealize.ShloMosaic.TcCoe Idealize.ShloMosaic.Tactic
open Cert.KernelIdeal.Hand (XC XS WC WS RES GM XB WB part ACC HN SQ RS VV QQ NC NS expOf byteOf)
open Cert.ReferenceIdeal.Hand (pow2 dec countOf expR amax)
open Cert.ReferenceIdeal (S256x16384 S256x512 S16384x7168 S512x7168 S256x7168 S1x7168 S256x1)

variable {m : (ℓ : Loc Cert.KernelIdeal.nD Cert.KernelIdeal.τ Cert.KernelIdeal.sig) → Buf (Elt Ideal) ℓ} {c : Dev Cert.KernelIdeal.nD}

/-- The arrays of the reference's payloads are the kernel's. -/
structure Same (m : (ℓ : Loc Cert.KernelIdeal.nD Cert.KernelIdeal.τ Cert.KernelIdeal.sig) → Buf (Elt Ideal) ℓ) (c : Dev Cert.KernelIdeal.nD)
    (x : S256x16384.Idx → EReal) (xs : S256x512.Idx → BitVec 8) (w : S16384x7168.Idx → EReal) (ws : S512x7168.Idx → BitVec 8)
    (res : S256x7168.Idx → EReal) (g : S1x7168.Idx → EReal) : Prop where
  x : ∀ y, x y = XC m c y
  xs : ∀ y, xs y = XS m c y
  w : ∀ y, w y = WC m c y
  ws : ∀ y, ws y = WS m c y
  res : ∀ y, res y = RES m c y
  g : ∀ y, g y = GM m c y

variable {x : S256x16384.Idx → EReal} {xs : S256x512.Idx → BitVec 8} {w : S16384x7168.Idx → EReal} {ws : S512x7168.Idx → BitVec 8}
  {res : S256x7168.Idx → EReal} {g : S1x7168.Idx → EReal}

/-- The first result. -/
theorem h_eq (hs : Same m c x xs w ws res g) (hp : Pre m c) (r : Fin 256) (n : Fin 7168) :
    (Cert.ReferenceIdeal.Gen.k0_pay2 (F := Ideal) x xs w ws res (ix2 r n) : EReal) = HN m c r n.val := by
  rw [Cert.ReferenceIdeal.Hand.pay2_apply]
  unfold HN ACC part
  rw [dif_pos n.isLt, sum_blocks (fun q => XB m c r q * WB m c q n.val)]
  refine congrArg₂ (fun (a b : EReal) => a + b) (hs.res _) (Finset.sum_congr rfl fun q _ => ?_)
  unfold XB WB
  rw [dif_pos q.isLt, dif_pos ⟨q.isLt, n.isLt⟩, hs.x, hs.xs, hs.w, hs.ws, sc_dec _ (hp.xs _).1 (hp.xs _).2, sc_dec _ (hp.ws _).1 (hp.ws _).2]

/-- The normalised values: the kernel's, -/
theorem vv_eq (r : Fin 256) (q : Fin 7168) : VV m c r q = nv (fun n => HN m c r n.val) (GM m c (ix2 0 q)) q := by
  unfold VV RS nv SQ
  rw [sum_lanes (fun n => HN m c r n * HN m c r n)]
  rfl

/-- and the reference's. -/
theorem v_eq (hs : Same m c x xs w ws res g) (hp : Pre m c) (r : Fin 256) (b : Fin 224) (i : Fin 32) :
    (Cert.ReferenceIdeal.Gen.k0_pay6 (F := Ideal) (Cert.ReferenceIdeal.Gen.k0_pay3 (F := Ideal) x xs w ws res) (Cert.ReferenceIdeal.Gen.k0_pay4 (F := Ideal) x xs w ws res)
        (Cert.ReferenceIdeal.Gen.k0_pay5 (F := Ideal)) g (ix3 r b i) : EReal)
      = VV m c r ⟨32 * b.val + i.val, by omega⟩ := by
  rw [Cert.ReferenceIdeal.Hand.pay6_apply, Cert.ReferenceIdeal.Hand.pay4_apply, vv_eq, div_n, hs.g]
  unfold nv
  have e : (Cert.ReferenceIdeal.Gen.k0_pay3 (F := Ideal) x xs w ws res (ix2 r ⟨32 * b.val + i.val, by omega⟩) : EReal) = HN m c r (32 * b.val + i.val) :=
    h_eq hs hp r ⟨32 * b.val + i.val, by omega⟩
  rw [e]
  have e2 : (∑ n : Fin 7168, (Cert.ReferenceIdeal.Gen.k0_pay2 (F := Ideal) x xs w ws res (ix2 r n) : EReal) * (Cert.ReferenceIdeal.Gen.k0_pay2 (F := Ideal) x xs w ws res (ix2 r n) : EReal))
      = ∑ n : Fin 7168, HN m c r n.val * HN m c r n.val :=
    Finset.sum_congr rfl fun n _ => by rw [h_eq hs hp r n]
  rw [e2]

/-- A block's exponent and its inverse scale. -/
theorem block_eq (hp : Pre m c) (r : Fin 256) (b : Fin 224) :
    expOf (QQ m c r b) = expR (amax fun i => VV m c r ⟨32 * b.val + i.val, by omega⟩)
      ∧ Ideal.ofBits .f32 (IntOp.shli ArithUnit.vector (IntOp.subi 127#32 (expOf (QQ m c r b))) 23#32)
        = pow2 (IntOp.subi 0#32 (expR (amax fun i => VV m c r ⟨32 * b.val + i.val, by omega⟩))) := by
  obtain ⟨a, ha, e, hq⟩ := amax_real (fun i : Fin 32 => VV m c r ⟨32 * b.val + i.val, by omega⟩) fun i => by
    rw [vv_eq]; exact nv_bound _ _ (hp.g _) _
  have eq : QQ m c r b = (a : EReal) * C := by rw [← e]; rfl
  rw [eq, e]
  exact exp_agree ha hq

/-- The exponents, -/
theorem e_eq (hs : Same m c x xs w ws res g) (hp : Pre m c) (r : Fin 256) (b : Fin 224) :
    Cert.ReferenceIdeal.Gen.k0_pay7 (F := Ideal) (Cert.ReferenceIdeal.Gen.k0_pay3 (F := Ideal) x xs w ws res) (Cert.ReferenceIdeal.Gen.k0_pay4 (F := Ideal) x xs w ws res)
        (Cert.ReferenceIdeal.Gen.k0_pay5 (F := Ideal)) g (ix3 r b 0) = expR (amax fun i => VV m c r ⟨32 * b.val + i.val, by omega⟩) := by
  rw [Cert.ReferenceIdeal.Hand.pay7_apply]
  exact congrArg (fun v => expR (amax v)) (funext fun i => v_eq hs hp r b i)

/-- the second result -/
theorem n_codes_eq (hs : Same m c x xs w ws res g) (hp : Pre m c) (r : Fin 256) (n : Fin 7168) :
    (Cert.ReferenceIdeal.Gen.k0_pay8 (F := Ideal) (Cert.ReferenceIdeal.Gen.k0_pay3 (F := Ideal) x xs w ws res) (Cert.ReferenceIdeal.Gen.k0_pay4 (F := Ideal) x xs w ws res)
        (Cert.ReferenceIdeal.Gen.k0_pay5 (F := Ideal)) g (ix2 r n) : EReal) = NC m c r n := by
  rw [Cert.ReferenceIdeal.Hand.pay8_apply, v_eq hs hp, e_eq hs hp]
  unfold NC
  rw [(block_eq hp r ⟨n.val / 32, by omega⟩).2]
  have e : (⟨32 * (n.val / 32) + n.val % 32, by omega⟩ : Fin 7168) = n := Fin.ext (Nat.div_add_mod n.val 32)
  simp only [e]

/-- and the third. -/
theorem n_scale_eq (hs : Same m c x xs w ws res g) (hp : Pre m c) (r : Fin 256) (b : Fin 224) :
    Cert.ReferenceIdeal.Gen.k0_pay1 (Cert.ReferenceIdeal.Gen.k0_pay7 (F := Ideal) (Cert.ReferenceIdeal.Gen.k0_pay3 (F := Ideal) x xs w ws res) (Cert.ReferenceIdeal.Gen.k0_pay4 (F := Ideal) x xs w ws res)
        (Cert.ReferenceIdeal.Gen.k0_pay5 (F := Ideal)) g) (ix2 r b) = NS m c r b := by
  rw [Cert.ReferenceIdeal.Hand.pay1_apply, e_eq hs hp]
  unfold NS byteOf
  rw [(block_eq hp r b).1]

end Cert.Quantise
-- ==== Proof.Algebraic.lean ====
/-
  THE VALUE CLAIM. Wherever the precondition holds and the arguments agree, the ideal kernel and the ideal reference leave
  the same three results.
-/
module

public import proofs.«01_k».proof.Proof.Equal

@[expose] public section

set_option maxRecDepth 16384
set_option maxHeartbeats 400000

noncomputable section

namespace Cert.Proof

open Idealize.ShloMosaic Idealize.ShloMosaic.TcCoe Idealize.SL.Sem Cert.Quantise
open Cert.KernelIdeal.Hand (HN NC NS)

/-- The reference's arguments end as they began. -/
theorem args_kept {m' : (ℓ : Loc Cert.ReferenceIdeal.nD Cert.ReferenceIdeal.τ Cert.ReferenceIdeal.sig) → Buf (Elt Ideal) ℓ}
    {r : PUnit × MemSt Cert.ReferenceIdeal.nD Cert.ReferenceIdeal.τ Cert.ReferenceIdeal.sig (Elt Ideal)}
    (h : Pipeline.FramePost Cert.ReferenceIdeal.cfgs (Cert.ReferenceIdeal.Gen.dats m') 0 (Cert.ReferenceIdeal.Gen.V m') r) (c : Dev Cert.ReferenceIdeal.nD) :
    r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5) :=
  ⟨((h c).2 Cert.ReferenceIdeal.main_arg0 (Pipeline.mem_restRefs_of _ (by decide) (by decide))).trans (Cert.ReferenceIdeal.Gen.V_main_arg0 m' c),
    ((h c).2 Cert.ReferenceIdeal.main_arg1 (Pipeline.mem_restRefs_of _ (by decide) (by decide))).trans (Cert.ReferenceIdeal.Gen.V_main_arg1 m' c),
    ((h c).1 2).trans (((Cert.ReferenceIdeal.Gen.dats m' 0 c).arrAt_in 2 rfl _).trans (Cert.ReferenceIdeal.Gen.V_main_arg2 m' c)),
    ((h c).1 3).trans (((Cert.ReferenceIdeal.Gen.dats m' 0 c).arrAt_in 3 rfl _).trans (Cert.ReferenceIdeal.Gen.V_main_arg3 m' c)),
    ((h c).2 Cert.ReferenceIdeal.main_arg4 (Pipeline.mem_restRefs_of _ (by decide) (by decide))).trans (Cert.ReferenceIdeal.Gen.V_main_arg4 m' c),
    ((h c).2 Cert.ReferenceIdeal.main_arg5 (Pipeline.mem_restRefs_of _ (by decide) (by decide))).trans (Cert.ReferenceIdeal.Gen.V_main_arg5 m' c)⟩

theorem algebraic : Cert.algebraic_KernelIdeal_ReferenceIdeal_pre_in_range := by
  intro m g m' g' hpre hargs
  have hA : ∀ c, Agree m m' c := fun c =>
    ⟨(hargs c).1, (hargs c).2.1, (hargs c).2.2.1, (hargs c).2.2.2.1, (hargs c).2.2.2.2.1, (hargs c).2.2.2.2.2⟩
  have hP : ∀ c, Pre m c := fun c => pre_of c hpre
  refine ⟨fun c => fun i : Cert.KernelIdeal.S256x7168.Idx => HN m c (i 0) (i 1).val, fun c => fun y : Cert.KernelIdeal.S256x7168.Idx => NC m c (y 0) (y 1),
    fun c => fun y : Cert.KernelIdeal.S256x224.Idx => NS m c (y 0) (y 1), ?_, ?_⟩
  · refine (θ_run _ _ _).mono (fun r h c => ?_) (Cert.KernelIdeal.Hand.run_main m g (Cert.KernelIdeal.Hand.carries (Cert.KernelIdeal.Hand.quant m))
      (fun c a b d e => Cert.KernelIdeal.Hand.inv_zero c a b d e))
    obtain ⟨h0, h1, h2⟩ := Cert.KernelIdeal.Hand.arrays h.1 c
    exact ⟨h0, h1, h2, Cert.KernelIdeal.Hand.args_kept h.1 c⟩
  · have hS : ∀ c : Dev Cert.KernelIdeal.nD, Same m c _ _ _ _ _ _ := fun c =>
      ⟨fun y => (congrFun (Cert.ReferenceIdeal.Hand.iblk0 m' c) y).trans (in0 c (hA c) y), fun y => (congrFun (Cert.ReferenceIdeal.Hand.iblk1 m' c) y).trans (in1 c (hA c) y),
        fun y => (congrFun (Cert.ReferenceIdeal.Hand.iblk2 m' c) y).trans (in2 c (hA c) y), fun y => (congrFun (Cert.ReferenceIdeal.Hand.iblk3 m' c) y).trans (in3 c (hA c) y),
        fun y => (congrFun (Cert.ReferenceIdeal.Hand.iblk4 m' c) y).trans (in4 c (hA c) y), fun y => (congrFun (Cert.ReferenceIdeal.Hand.iblk5 m' c) y).trans (in5 c (hA c) y)⟩
    refine (θ_run _ _ _).mono (fun r h c => ?_) (Cert.ReferenceIdeal.Gen.run_main m' g')
    refine ⟨((h c).1 6).trans ((Cert.ReferenceIdeal.Hand.final6 m' c).trans (funext fun y => ?_)),
      ((h c).1 7).trans ((Cert.ReferenceIdeal.Hand.final7 m' c).trans (funext fun y => ?_)),
      ((h c).1 8).trans ((Cert.ReferenceIdeal.Hand.final8 m' c).trans (funext fun y => ?_)), args_kept h c⟩
    · rw [eq_ix2 y]; exact h_eq (hS c) (hP c) (y 0) (y 1)
    · rw [eq_ix2 y]; exact n_codes_eq (hS c) (hP c) (y 0) (y 1)
    · rw [eq_ix2 y]; exact n_scale_eq (hS c) (hP c) (y 0) (y 1)

end Cert.Proof

end
-- ==== Proof.lean ====
/-
  THE CLAIM. The kernel, the ideal kernel and the ideal reference run to their ends and leave their arguments as they were
  (Proof/Frames.lean); the ideal kernel is the kernel but for one named constant that rounds to the kernel's own; and where
  the inputs are in range the ideal kernel's three results are the ideal reference's (Proof/Algebraic.lean).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_p, frame_pi, frame_pi_pre, frame_ri, frame_ri_pre, preserves, algebraic⟩

end Cert.Proof

end
